-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_logits_below_inf [hPre_logits_below_inf : Cert.Pre_logits_below_inf.Facts] (m : (ℓ : Loc Cert.KernelIdeal.nD Cert.KernelIdeal.τ Cert.KernelIdeal.sig) → Buf (Elt Ideal) ℓ) : Prop :=
  ∀ c : Dev Cert.KernelIdeal.nD,
    (Cert.Pre_logits_below_inf.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_logits_below_inf [hPre_logits_below_inf : Cert.Pre_logits_below_inf.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_logits_below_inf.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_logits_below_inf [hKernelIdeal : Cert.KernelIdeal.Facts] [hPre_logits_below_inf : Cert.Pre_logits_below_inf.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_logits_below_inf m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_logits_below_inf [hReferenceIdeal : Cert.ReferenceIdeal.Facts] [hPre_logits_below_inf : Cert.Pre_logits_below_inf.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_logits_below_inf m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal_pre_logits_below_inf [hKernelIdeal : Cert.KernelIdeal.Facts] [hReferenceIdeal : Cert.ReferenceIdeal.Facts] [hPre_logits_below_inf : Cert.Pre_logits_below_inf.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_logits_below_inf m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v20)) (v1 : (c : Dev Cert.KernelIdeal.nD) → Buf (Elt Ideal) ((c.tc : Thread Cert.KernelIdeal.nD Cert.KernelIdeal.τ).loc Cert.KernelIdeal.main_v21)) (v2 : (c : Dev Cert.KernelIdeal.nD) → Buf (Elt Ideal) ((c.tc : Thread Cert.KernelIdeal.nD Cert.KernelIdeal.τ).loc Cert.KernelIdeal.main_v22)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v20) = v0 c
          ∧ r.2.mem ((c.tc : Thread Cert.KernelIdeal.nD Cert.KernelIdeal.τ).loc Cert.KernelIdeal.main_v21) = v1 c
          ∧ r.2.mem ((c.tc : Thread Cert.KernelIdeal.nD Cert.KernelIdeal.τ).loc Cert.KernelIdeal.main_v22) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v134) = v0 c
          ∧ r.2.mem ((c.tc : Thread Cert.ReferenceIdeal.nD Cert.ReferenceIdeal.τ).loc Cert.ReferenceIdeal.main_v130) = v1 c
          ∧ r.2.mem ((c.tc : Thread Cert.ReferenceIdeal.nD Cert.ReferenceIdeal.τ).loc Cert.ReferenceIdeal.main_v135) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_logits_below_inf : Cert.Pre_logits_below_inf.Facts),
    quiescent_Kernel (hKernel := hKernel)
    ∧ quiescent_KernelIdeal (hKernelIdeal := hKernelIdeal)
    ∧ quiescent_KernelIdeal_pre_logits_below_inf (hKernelIdeal := hKernelIdeal) (hPre_logits_below_inf := hPre_logits_below_inf)
    ∧ quiescent_ReferenceIdeal (hReferenceIdeal := hReferenceIdeal)
    ∧ quiescent_ReferenceIdeal_pre_logits_below_inf (hReferenceIdeal := hReferenceIdeal) (hPre_logits_below_inf := hPre_logits_below_inf)
    ∧ preserves_Kernel_KernelIdeal
    ∧ algebraic_KernelIdeal_ReferenceIdeal_pre_logits_below_inf (hKernelIdeal := hKernelIdeal) (hReferenceIdeal := hReferenceIdeal) (hPre_logits_below_inf := hPre_logits_below_inf)
-- ==== Pre_logits_below_inf.lean ====
abbrev S20000x81 : Shape := ⟨2, ![20000, 81]⟩
abbrev S20000x324 : Shape := ⟨2, ![20000, 324]⟩
abbrev S20000x4 : Shape := ⟨2, ![20000, 4]⟩
abbrev S_ : Shape := ⟨0, ![]⟩

class Facts : Prop where
  bcast_S_S20000x81 : S_.BroadcastsInDim S20000x81 (![] : Fin 0 → Fin S20000x81.rank)

variable [Facts]

def fn {F : FTy → Type} [FloatOps F] (main_arg0 : FVec F S20000x81 .f32) (main_arg1 : FVec F S20000x324 .f32) (main_arg2 : FVec F S20000x4 .f32) : IVec S20000x81 1 :=
  let main_cst : FVec F S_ .f32 := constant S_ .f32 0x7F800000#32
  let main_v0 : FVec F S20000x81 .f32 := broadcastInDim S20000x81 ![] bcast_S_S20000x81 main_cst
  let main_v1 : IVec S20000x81 1 := cmpf .olt main_arg0 main_v0
  main_v1
-- ==== Kernel.lean ====
abbrev S20000x81 : Shape := ⟨2, ![20000, 81]⟩
abbrev S20000x324 : Shape := ⟨2, ![20000, 324]⟩
abbrev S20000x4 : Shape := ⟨2, ![20000, 4]⟩
abbrev S20000x1 : Shape := ⟨2, ![20000, 1]⟩
abbrev S1000x81 : Shape := ⟨2, ![1000, 81]⟩
abbrev S1000x324 : Shape := ⟨2, ![1000, 324]⟩
abbrev S1000x4 : Shape := ⟨2, ![1000, 4]⟩
abbrev S1000x1 : Shape := ⟨2, ![1000, 1]⟩
abbrev S1000 : Shape := ⟨1, ![1000]⟩
abbrev S20000 : Shape := ⟨1, ![20000]⟩
abbrev S_ : Shape := ⟨0, ![]⟩
abbrev S20480 : Shape := ⟨1, ![20480]⟩
abbrev S160x128 : Shape := ⟨2, ![160, 128]⟩
abbrev S100x1 : Shape := ⟨2, ![100, 1]⟩
abbrev S1x160x128 : Shape := ⟨3, ![1, 160, 128]⟩
abbrev S1 : Shape := ⟨1, ![1]⟩
abbrev S1x1x1 : Shape := ⟨3, ![1, 1, 1]⟩
abbrev S1x1 : Shape := ⟨2, ![1, 1]⟩
abbrev S100x4 : Shape := ⟨2, ![100, 4]⟩
abbrev S100 : Shape := ⟨1, ![100]⟩

abbrev nBuf : Space → Nat
  | .hbm => 48
  | .vmem => 30
  | .smem => 0
  | _ => 0

abbrev bufTy : (tb : Table) → Fin (tcTables nBuf tb) → BufTy
  | .hbm, ⟨0, _⟩ => ⟨S20000x81, .f32⟩
  | .hbm, ⟨1, _⟩ => ⟨S20000x324, .f32⟩
  | .hbm, ⟨2, _⟩ => ⟨S20000x4, .f32⟩
  | .hbm, ⟨3, _⟩ => ⟨S20000x1, .f32⟩
  | .hbm, ⟨4, _⟩ => ⟨S20000x1, .f32⟩
  | .hbm, ⟨5, _⟩ => ⟨S20000x1, .f32⟩
  | .hbm, ⟨6, _⟩ => ⟨S20000x1, .f32⟩
  | .hbm, ⟨7, _⟩ => ⟨S20000x1, .f32⟩
  | .hbm, ⟨8, _⟩ => ⟨S20000x1, .i32⟩
  | .hbm, ⟨9, _⟩ => ⟨S20000, .f32⟩
  | .hbm, ⟨10, _⟩ => ⟨S_, .f32⟩
  | .hbm, ⟨11, _⟩ => ⟨S_, .f32⟩
  | .hbm, ⟨12, _⟩ => ⟨S20480, .f32⟩
  | .hbm, ⟨13, _⟩ => ⟨S160x128, .f32⟩
  | .hbm, ⟨14, _⟩ => ⟨S20000, .f32⟩
  | .hbm, ⟨15, _⟩ => ⟨S_, .f32⟩
  | .hbm, ⟨16, _⟩ => ⟨S_, .f32⟩
  | .hbm, ⟨17, _⟩ => ⟨S20480, .f32⟩
  | .hbm, ⟨18, _⟩ => ⟨S160x128, .f32⟩
  | .hbm, ⟨19, _⟩ => ⟨S20000, .f32⟩
  | .hbm, ⟨20, _⟩ => ⟨S_, .f32⟩
  | .hbm, ⟨21, _⟩ => ⟨S_, .f32⟩
  | .hbm, ⟨22, _⟩ => ⟨S20480, .f32⟩
  | .hbm, ⟨23, _⟩ => ⟨S160x128, .f32⟩
  | .hbm, ⟨24, _⟩ => ⟨S20000, .f32⟩
  | .hbm, ⟨25, _⟩ => ⟨S_, .f32⟩
  | .hbm, ⟨26, _⟩ => ⟨S_, .f32⟩
  | .hbm, ⟨27, _⟩ => ⟨S20480, .f32⟩
  | .hbm, ⟨28, _⟩ => ⟨S160x128, .f32⟩
  | .hbm, ⟨29, _⟩ => ⟨S20000, .f32⟩
  | .hbm, ⟨30, _⟩ => ⟨S_, .f32⟩
  | .hbm, ⟨31, _⟩ => ⟨S_, .f32⟩
  | .hbm, ⟨32, _⟩ => ⟨S20480, .f32⟩
  | .hbm, ⟨33, _⟩ => ⟨S160x128, .f32⟩
  | .hbm, ⟨34, _⟩ => ⟨S20000, .i32⟩
  | .hbm, ⟨35, _⟩ => ⟨S_, .i32⟩
  | .hbm, ⟨36, _⟩ => ⟨S_, .i32⟩
  | .hbm, ⟨37, _⟩ => ⟨S20480, .i32⟩
  | .hbm, ⟨38, _⟩ => ⟨S160x128, .i32⟩
  | .hbm, ⟨39, _⟩ => ⟨S100x1, .f32⟩
  | .hbm, ⟨40, _⟩ => ⟨S100x1, .f32⟩
  | .hbm, ⟨41, _⟩ => ⟨S100x1, .f32⟩
  | .hbm, ⟨42, _⟩ => ⟨S100x1, .f32⟩
  | .hbm, ⟨43, _⟩ => ⟨S100x1, .f32⟩
  | .hbm, ⟨44, _⟩ => ⟨S100x1, .i32⟩
  | .hbm, ⟨45, _⟩ => ⟨S100x4, .f32⟩
  | .hbm, ⟨46, _⟩ => ⟨S100, .f32⟩
  | .hbm, ⟨47, _⟩ => ⟨S100, .i32⟩
  | .local _ .vmem, ⟨0, _⟩ => ⟨S1000x81, .f32⟩
  | .local _ .vmem, ⟨1, _⟩ => ⟨S1000x81, .f32⟩
  | .local _ .vmem, ⟨2, _⟩ => ⟨S1000x324, .f32⟩
  | .local _ .vmem, ⟨3, _⟩ => ⟨S1000x324, .f32⟩
  | .local _ .vmem, ⟨4, _⟩ => ⟨S1000x4, .f32⟩
  | .local _ .vmem, ⟨5, _⟩ => ⟨S1000x4, .f32⟩
  | .local _ .vmem, ⟨6, _⟩ => ⟨S1000x1, .f32⟩
  | .local _ .vmem, ⟨7, _⟩ => ⟨S1000x1, .f32⟩
  | .local _ .vmem, ⟨8, _⟩ => ⟨S1000x1, .f32⟩
  | .local _ .vmem, ⟨9, _⟩ => ⟨S1000x1, .f32⟩
  | .local _ .vmem, ⟨10, _⟩ => ⟨S1000x1, .f32⟩
  | .local _ .vmem, ⟨11, _⟩ => ⟨S1000x1, .f32⟩
  | .local _ .vmem, ⟨12, _⟩ => ⟨S1000x1, .f32⟩
  | .local _ .vmem, ⟨13, _⟩ => ⟨S1000x1, .f32⟩
  | .local _ .vmem, ⟨14, _⟩ => ⟨S1000x1, .f32⟩
  | .local _ .vmem, ⟨15, _⟩ => ⟨S1000x1, .f32⟩
  | .local _ .vmem, ⟨16, _⟩ => ⟨S1000x1, .i32⟩
  | .local _ .vmem, ⟨17, _⟩ => ⟨S1000x1, .i32⟩
  | .local _ .vmem, ⟨18, _⟩ => ⟨S160x128, .f32⟩
  | .local _ .vmem, ⟨19, _⟩ => ⟨S160x128, .f32⟩
  | .local _ .vmem, ⟨20, _⟩ => ⟨S160x128, .f32⟩
  | .local _ .vmem, ⟨21, _⟩ => ⟨S160x128, .f32⟩
  | .local _ .vmem, ⟨22, _⟩ => ⟨S160x128, .f32⟩
  | .local _ .vmem, ⟨23, _⟩ => ⟨S160x128, .i32⟩
  | .local _ .vmem, ⟨24, _⟩ => ⟨S100x1, .f32⟩
  | .local _ .vmem, ⟨25, _⟩ => ⟨S100x1, .f32⟩
  | .local _ .vmem, ⟨26, _⟩ => ⟨S100x1, .f32⟩
  | .local _ .vmem, ⟨27, _⟩ => ⟨S100x1, .f32⟩
  | .local _ .vmem, ⟨28, _⟩ => ⟨S100x1, .f32⟩
  | .local _ .vmem, ⟨29, _⟩ => ⟨S100x1, .i32⟩
  | _, _ => ⟨S20000x81, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | _, _ => false

abbrev semScoped : Fin 0 → Bool
  | ⟨_, h⟩ => absurd h (Nat.not_lt_zero _)

abbrev dmaSemScoped : Fin 30 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | _ => false

abbrev sig : RefSig :=
  ofTc nBuf bufTy 0 30 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev main_v0_2 : Ref sig .tc := ⟨.hbm, 5, rfl⟩
abbrev main_v0_3 : Ref sig .tc := ⟨.hbm, 6, rfl⟩
abbrev main_v0_4 : Ref sig .tc := ⟨.hbm, 7, rfl⟩
abbrev main_v0_5 : Ref sig .tc := ⟨.hbm, 8, rfl⟩
abbrev main_v1 : Ref sig .tc := ⟨.hbm, 9, rfl⟩
abbrev main_cst : Ref sig .tc := ⟨.hbm, 10, rfl⟩
abbrev main_call0_v0 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_cst_0 : Ref sig .tc := ⟨.hbm, 15, rfl⟩
abbrev main_call1_v0 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_cst_1 : Ref sig .tc := ⟨.hbm, 20, rfl⟩
abbrev main_call2_v0 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_cst_2 : Ref sig .tc := ⟨.hbm, 25, rfl⟩
abbrev main_call3_v0 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_cst_3 : Ref sig .tc := ⟨.hbm, 30, rfl⟩
abbrev main_call4_v0 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_c : Ref sig .tc := ⟨.hbm, 35, rfl⟩
abbrev main_call5_v0 : Ref sig .tc := ⟨.hbm, 36, rfl⟩
abbrev main_v17 : Ref sig .tc := ⟨.hbm, 37, rfl⟩
abbrev main_v18 : Ref sig .tc := ⟨.hbm, 38, rfl⟩
abbrev main_v19_0 : Ref sig .tc := ⟨.hbm, 39, rfl⟩
abbrev main_v19_1 : Ref sig .tc := ⟨.hbm, 40, rfl⟩
abbrev main_v19_2 : Ref sig .tc := ⟨.hbm, 41, rfl⟩
abbrev main_v19_3 : Ref sig .tc := ⟨.hbm, 42, rfl⟩
abbrev main_v19_4 : Ref sig .tc := ⟨.hbm, 43, rfl⟩
abbrev main_v19_5 : Ref sig .tc := ⟨.hbm, 44, rfl⟩
abbrev main_v20 : Ref sig .tc := ⟨.hbm, 45, rfl⟩
abbrev main_v21 : Ref sig .tc := ⟨.hbm, 46, rfl⟩
abbrev main_v22 : Ref sig .tc := ⟨.hbm, 47, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc1_stg0_0 : Ref sig .tc := ⟨.vmem, 18, rfl⟩
abbrev cc1_stg1_0 : Ref sig .tc := ⟨.vmem, 19, rfl⟩
abbrev cc1_stg2_0 : Ref sig .tc := ⟨.vmem, 20, rfl⟩
abbrev cc1_stg3_0 : Ref sig .tc := ⟨.vmem, 21, rfl⟩
abbrev cc1_stg4_0 : Ref sig .tc := ⟨.vmem, 22, rfl⟩
abbrev cc1_stg5_0 : Ref sig .tc := ⟨.vmem, 23, rfl⟩
abbrev cc1_stg6_0 : Ref sig .tc := ⟨.vmem, 24, rfl⟩
abbrev cc1_stg7_0 : Ref sig .tc := ⟨.vmem, 25, rfl⟩
abbrev cc1_stg8_0 : Ref sig .tc := ⟨.vmem, 26, rfl⟩
abbrev cc1_stg9_0 : Ref sig .tc := ⟨.vmem, 27, rfl⟩
abbrev cc1_stg10_0 : Ref sig .tc := ⟨.vmem, 28, rfl⟩
abbrev cc1_stg11_0 : Ref sig .tc := ⟨.vmem, 29, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc1_sem0_0 : DmaSem sig := 18
abbrev cc1_sem1_0 : DmaSem sig := 19
abbrev cc1_sem2_0 : DmaSem sig := 20
abbrev cc1_sem3_0 : DmaSem sig := 21
abbrev cc1_sem4_0 : DmaSem sig := 22
abbrev cc1_sem5_0 : DmaSem sig := 23
abbrev cc1_sem6_0 : DmaSem sig := 24
abbrev cc1_sem7_0 : DmaSem sig := 25
abbrev cc1_sem8_0 : DmaSem sig := 26
abbrev cc1_sem9_0 : DmaSem sig := 27
abbrev cc1_sem10_0 : DmaSem sig := 28
abbrev cc1_sem11_0 : DmaSem sig := 29

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1000x81 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1000x324 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1000x4 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1000x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1000x1 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1000x1 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1000x1 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1000x1 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1000x1 .i32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev grid1 : Pipeline.Grid := .none

@[reducible] def k1_t1_loop : Scf.Loop 32 :=
  let c0_i32 : BitVec 32 := 0#32
  let c100_i32 : BitVec 32 := 100#32
  let v24 : BitVec 32 := Scalar.addi c0_i32 c100_i32
  let c1_i32 : BitVec 32 := 1#32
  ⟨c0_i32, v24, c1_i32⟩
def k1_off1 (k1_t1 : Fin k1_t1_loop.trips) : Fin 2 → Nat :=
  let c0_i32 : BitVec 32 := 0#32
  let c1_i32 : BitVec 32 := 1#32
  let arg12 : BitVec 32 := Scf.iv c0_i32 c1_i32 k1_t1
  let v106 : Index := Scalar.indexCast arg12
  let c0_35 : Index := 0#32
  ![v106.toNat, 0]
abbrev stage1_0 : Fin 1 → Memref sig .tc .vmem S160x128 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))

abbrev stage1_1 : Fin 1 → Memref sig .tc .vmem S160x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))

abbrev stage1_2 : Fin 1 → Memref sig .tc .vmem S160x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))

abbrev stage1_3 : Fin 1 → Memref sig .tc .vmem S160x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))

abbrev stage1_4 : Fin 1 → Memref sig .tc .vmem S160x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))

abbrev stage1_5 : Fin 1 → Memref sig .tc .vmem S160x128 .i32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))

abbrev stage1_6 : Fin 1 → Memref sig .tc .vmem S100x1 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))

abbrev stage1_7 : Fin 1 → Memref sig .tc .vmem S100x1 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))

abbrev stage1_8 : Fin 1 → Memref sig .tc .vmem S100x1 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))

abbrev stage1_9 : Fin 1 → Memref sig .tc .vmem S100x1 .f32 := fun | 0 => Memref.whole cc1_stg9_0 | ⟨_ + 1, h⟩ => absurd h (Nat.not_lt.2 (Nat.le_add_left _ _))
abbrev sem1_9 : Fin 1 → DmaSem sig := fun | 0 => cc1_sem9_0 | ⟨_ + 1, h⟩ => absurd h (Nat.not_lt.2 (Nat.le_add_left _ _))

abbrev stage1_10 : Fin 1 → Memref sig .tc .vmem S100x1 .f32 := fun | 0 => Memref.whole cc1_stg10_0 | ⟨_ + 1, h⟩ => absurd h (Nat.not_lt.2 (Nat.le_add_left _ _))
abbrev sem1_10 : Fin 1 → DmaSem sig := fun | 0 => cc1_sem10_0 | ⟨_ + 1, h⟩ => absurd h (Nat.not_lt.2 (Nat.le_add_left _ _))

abbrev stage1_11 : Fin 1 → Memref sig .tc .vmem S100x1 .i32 := fun | 0 => Memref.whole cc1_stg11_0 | ⟨_ + 1, h⟩ => absurd h (Nat.not_lt.2 (Nat.le_add_left _ _))
abbrev sem1_11 : Fin 1 → DmaSem sig := fun | 0 => cc1_sem11_0 | ⟨_ + 1, h⟩ => absurd h (Nat.not_lt.2 (Nat.le_add_left _ _))
-- ==== ReferenceIdeal.lean ====
abbrev S20000x81 : Shape := ⟨2, ![20000, 81]⟩
abbrev S20000x324 : Shape := ⟨2, ![20000, 324]⟩
abbrev S20000x4 : Shape := ⟨2, ![20000, 4]⟩
abbrev S_ : Shape := ⟨0, ![]⟩
abbrev S20000 : Shape := ⟨1, ![20000]⟩
abbrev S20000x1 : Shape := ⟨2, ![20000, 1]⟩
abbrev S20000x81x1 : Shape := ⟨3, ![20000, 81, 1]⟩
abbrev S20000x81x4 : Shape := ⟨3, ![20000, 81, 4]⟩
abbrev S20000x1x1 : Shape := ⟨3, ![20000, 1, 1]⟩
abbrev S1 : Shape := ⟨1, ![1]⟩
abbrev S1x1x1 : Shape := ⟨3, ![1, 1, 1]⟩
abbrev S20000x1x1x1 : Shape := ⟨4, ![20000, 1, 1, 1]⟩
abbrev S20000x1x4 : Shape := ⟨3, ![20000, 1, 4]⟩
abbrev S100x4 : Shape := ⟨2, ![100, 4]⟩
abbrev S100 : Shape := ⟨1, ![100]⟩
abbrev S1x4 : Shape := ⟨2, ![1, 4]⟩
abbrev S4 : Shape := ⟨1, ![4]⟩
abbrev S100x1 : Shape := ⟨2, ![100, 1]⟩

abbrev nBuf : Space → Nat
  | .hbm => 385
  | .vmem => 0
  | .smem => 0
  | _ => 0

abbrev hbmTy0_0 (i : Nat) : BufTy := match i % 128 with
  | 0 => ⟨S20000x81, .f32⟩
  | 1 => ⟨S20000x324, .f32⟩
  | 2 => ⟨S20000x4, .f32⟩
  | 3 => ⟨S_, .f32⟩
  | 4 => ⟨S20000, .f32⟩
  | 5 => ⟨S_, .f32⟩
  | 6 => ⟨S20000, .f32⟩
  | 7 => ⟨S20000, .f32⟩
  | 8 => ⟨S20000x1, .f32⟩
  | 9 => ⟨S20000x81, .f32⟩
  | 10 => ⟨S20000x81, .f32⟩
  | 11 => ⟨S20000x81, .f32⟩
  | 12 => ⟨S_, .f32⟩
  | 13 => ⟨S20000, .f32⟩
  | 14 => ⟨S20000x1, .f32⟩
  | 15 => ⟨S20000x81, .f32⟩
  | 16 => ⟨S20000x81, .f32⟩
  | 17 => ⟨S20000x1, .f32⟩
  | 18 => ⟨S20000, .f32⟩
  | 19 => ⟨S20000x1, .f32⟩
  | 20 => ⟨S20000, .f32⟩
  | 21 => ⟨S20000, .f32⟩
  | 22 => ⟨S_, .f32⟩
  | 23 => ⟨S20000, .f32⟩
  | 24 => ⟨S20000, .f32⟩
  | 25 => ⟨S20000x1, .f32⟩
  | 26 => ⟨S20000, .f32⟩
  | 27 => ⟨S20000x1, .f32⟩
  | 28 => ⟨S20000, .f32⟩
  | 29 => ⟨S20000, .f32⟩
  | 30 => ⟨S_, .f32⟩
  | 31 => ⟨S20000, .f32⟩
  | 32 => ⟨S20000, .f32⟩
  | 33 => ⟨S20000x1, .f32⟩
  | 34 => ⟨S20000, .f32⟩
  | 35 => ⟨S_, .f32⟩
  | 36 => ⟨S20000, .f32⟩
  | 37 => ⟨S20000, .f32⟩
  | 38 => ⟨S20000, .f32⟩
  | 39 => ⟨S20000x1, .f32⟩
  | 40 => ⟨S20000, .f32⟩
  | 41 => ⟨S_, .f32⟩
  | 42 => ⟨S20000, .f32⟩
  | 43 => ⟨S20000, .f32⟩
  | 44 => ⟨S20000, .f32⟩
  | 45 => ⟨S20000x81, .f32⟩
  | 46 => ⟨S_, .f32⟩
  | 47 => ⟨S20000x81, .f32⟩
  | 48 => ⟨S20000x81, .f32⟩
  | 49 => ⟨S20000x81, .f32⟩
  | 50 => ⟨S_, .f32⟩
  | 51 => ⟨S20000x81, .f32⟩
  | 52 => ⟨S20000x81, .f32⟩
  | 53 => ⟨S20000x81, .f32⟩
  | 54 => ⟨S_, .f32⟩
  | 55 => ⟨S20000x81, .f32⟩
  | 56 => ⟨S20000x81, .f32⟩
  | 57 => ⟨S_, .f32⟩
  | 58 => ⟨S20000x81, .f32⟩
  | 59 => ⟨S20000x81, .f32⟩
  | 60 => ⟨S20000x81, .f32⟩
  | 61 => ⟨S_, .f32⟩
  | 62 => ⟨S20000x81, .f32⟩
  | 63 => ⟨S20000x81, .f32⟩
  | 64 => ⟨S_, .f32⟩
  | 65 => ⟨S20000x81, .f32⟩
  | 66 => ⟨S20000x81, .f32⟩
  | 67 => ⟨S20000x1, .f32⟩
  | 68 => ⟨S20000x81, .f32⟩
  | 69 => ⟨S20000x81, .f32⟩
  | 70 => ⟨S20000x1, .f32⟩
  | 71 => ⟨S20000x81, .f32⟩
  | 72 => ⟨S20000x81, .f32⟩
  | 73 => ⟨S20000x1, .f32⟩
  | 74 => ⟨S20000x81, .f32⟩
  | 75 => ⟨S20000x81, .f32⟩
  | 76 => ⟨S20000x1, .f32⟩
  | 77 => ⟨S20000x81, .f32⟩
  | 78 => ⟨S20000x81, .f32⟩
  | 79 => ⟨S20000x81, .f32⟩
  | 80 => ⟨S20000x1, .f32⟩
  | 81 => ⟨S20000x81, .f32⟩
  | 82 => ⟨S20000x81, .f32⟩
  | 83 => ⟨S20000x81, .f32⟩
  | 84 => ⟨S20000x1, .f32⟩
  | 85 => ⟨S20000x81, .f32⟩
  | 86 => ⟨S20000x81, .f32⟩
  | 87 => ⟨S_, .f32⟩
  | 88 => ⟨S20000x81, .f32⟩
  | 89 => ⟨S20000x81, .f32⟩
  | 90 => ⟨S20000x81, .f32⟩
  | 91 => ⟨S_, .f32⟩
  | 92 => ⟨S20000x81, .f32⟩
  | 93 => ⟨S20000x81, .f32⟩
  | 94 => ⟨S20000x81, .f32⟩
  | 95 => ⟨S_, .f32⟩
  | 96 => ⟨S20000x81, .f32⟩
  | 97 => ⟨S20000x81, .f32⟩
  | 98 => ⟨S20000x81, .f32⟩
  | 99 => ⟨S_, .f32⟩
  | 100 => ⟨S20000x81, .f32⟩
  | 101 => ⟨S20000x81, .f32⟩
  | 102 => ⟨S_, .f32⟩
  | 103 => ⟨S20000x81, .f32⟩
  | 104 => ⟨S20000x81, .f32⟩
  | 105 => ⟨S20000x81, .f32⟩
  | 106 => ⟨S_, .f32⟩
  | 107 => ⟨S20000x81, .f32⟩
  | 108 => ⟨S20000x81, .f32⟩
  | 109 => ⟨S20000x81x1, .f32⟩
  | 110 => ⟨S20000x81x1, .f32⟩
  | 111 => ⟨S20000x81x1, .f32⟩
  | 112 => ⟨S20000x81x1, .f32⟩
  | 113 => ⟨S20000x81x4, .f32⟩
  | 114 => ⟨S20000x81x1, .f32⟩
  | 115 => ⟨S20000x81, .f32⟩
  | 116 => ⟨S_, .f32⟩
  | 117 => ⟨S_, .f32⟩
  | 118 => ⟨S_, .f32⟩
  | 119 => ⟨S20000x81, .f32⟩
  | 120 => ⟨S20000x81, .f32⟩
  | 121 => ⟨S_, .f32⟩
  | 122 => ⟨S20000x81, .f32⟩
  | 123 => ⟨S20000x81, .f32⟩
  | 124 => ⟨S20000x81x1, .f32⟩
  | 125 => ⟨S20000x81, .f32⟩
  | 126 => ⟨S_, .f32⟩
  | 127 => ⟨S_, .f32⟩
  | _ => ⟨S20000x81, .f32⟩

abbrev hbmTy0_1 (i : Nat) : BufTy := match i % 128 with
  | 0 => ⟨S_, .f32⟩
  | 1 => ⟨S20000x81, .f32⟩
  | 2 => ⟨S20000x81, .f32⟩
  | 3 => ⟨S_, .f32⟩
  | 4 => ⟨S20000x81, .f32⟩
  | 5 => ⟨S20000x81, .f32⟩
  | 6 => ⟨S20000x81x1, .f32⟩
  | 7 => ⟨S20000x81, .f32⟩
  | 8 => ⟨S_, .f32⟩
  | 9 => ⟨S_, .f32⟩
  | 10 => ⟨S_, .f32⟩
  | 11 => ⟨S20000x81, .f32⟩
  | 12 => ⟨S20000x81, .f32⟩
  | 13 => ⟨S_, .f32⟩
  | 14 => ⟨S20000x81, .f32⟩
  | 15 => ⟨S20000x81, .f32⟩
  | 16 => ⟨S20000x81x1, .f32⟩
  | 17 => ⟨S20000x81, .f32⟩
  | 18 => ⟨S_, .f32⟩
  | 19 => ⟨S_, .f32⟩
  | 20 => ⟨S_, .f32⟩
  | 21 => ⟨S20000x81, .f32⟩
  | 22 => ⟨S20000x81, .f32⟩
  | 23 => ⟨S_, .f32⟩
  | 24 => ⟨S20000x81, .f32⟩
  | 25 => ⟨S20000x81, .f32⟩
  | 26 => ⟨S20000x81x1, .f32⟩
  | 27 => ⟨S20000x81x1, .f32⟩
  | 28 => ⟨S20000x81x1, .f32⟩
  | 29 => ⟨S20000x81x1, .f32⟩
  | 30 => ⟨S20000x81x4, .f32⟩
  | 31 => ⟨S20000x1, .f32⟩
  | 32 => ⟨S20000x1, .i32⟩
  | 33 => ⟨S20000, .i32⟩
  | 34 => ⟨S20000x1, .i32⟩
  | 35 => ⟨S_, .i32⟩
  | 36 => ⟨S20000x1, .i32⟩
  | 37 => ⟨S20000x1, .i1⟩
  | 38 => ⟨S_, .i32⟩
  | 39 => ⟨S20000x1, .i32⟩
  | 40 => ⟨S20000x1, .i32⟩
  | 41 => ⟨S20000x1, .i32⟩
  | 42 => ⟨S20000x1x1, .i32⟩
  | 43 => ⟨S1, .i32⟩
  | 44 => ⟨S_, .i32⟩
  | 45 => ⟨S20000x1x1, .i32⟩
  | 46 => ⟨S20000x1x1, .i1⟩
  | 47 => ⟨S1x1x1, .i32⟩
  | 48 => ⟨S20000x1x1, .i32⟩
  | 49 => ⟨S20000x1x1, .i1⟩
  | 50 => ⟨S20000x1x1, .i1⟩
  | 51 => ⟨S_, .i1⟩
  | 52 => ⟨S20000x1, .i1⟩
  | 53 => ⟨S20000x1, .f32⟩
  | 54 => ⟨S_, .f32⟩
  | 55 => ⟨S20000x1, .f32⟩
  | 56 => ⟨S20000x1, .f32⟩
  | 57 => ⟨S20000, .f32⟩
  | 58 => ⟨S20000x1x1, .i32⟩
  | 59 => ⟨S20000x1x1x1, .i32⟩
  | 60 => ⟨S20000x1x1, .i32⟩
  | 61 => ⟨S_, .i32⟩
  | 62 => ⟨S20000x1x1, .i32⟩
  | 63 => ⟨S20000x1x1, .i1⟩
  | 64 => ⟨S_, .i32⟩
  | 65 => ⟨S20000x1x1, .i32⟩
  | 66 => ⟨S20000x1x1, .i32⟩
  | 67 => ⟨S20000x1x1, .i32⟩
  | 68 => ⟨S1, .i32⟩
  | 69 => ⟨S_, .i32⟩
  | 70 => ⟨S20000x1x1, .i32⟩
  | 71 => ⟨S20000x1x1, .i1⟩
  | 72 => ⟨S1x1x1, .i32⟩
  | 73 => ⟨S20000x1x1, .i32⟩
  | 74 => ⟨S20000x1x1, .i1⟩
  | 75 => ⟨S20000x1x1, .i1⟩
  | 76 => ⟨S_, .i1⟩
  | 77 => ⟨S20000x1, .i1⟩
  | 78 => ⟨S20000x1x4, .f32⟩
  | 79 => ⟨S20000x1x4, .i1⟩
  | 80 => ⟨S_, .f32⟩
  | 81 => ⟨S20000x1x4, .f32⟩
  | 82 => ⟨S20000x1x4, .f32⟩
  | 83 => ⟨S20000x4, .f32⟩
  | 84 => ⟨S_, .i32⟩
  | 85 => ⟨S20000, .i32⟩
  | 86 => ⟨S20000, .i1⟩
  | 87 => ⟨S_, .f32⟩
  | 88 => ⟨S20000, .f32⟩
  | 89 => ⟨S20000, .i1⟩
  | 90 => ⟨S20000, .i1⟩
  | 91 => ⟨S_, .f32⟩
  | 92 => ⟨S_, .f32⟩
  | 93 => ⟨S20000, .f32⟩
  | 94 => ⟨S20000, .f32⟩
  | 95 => ⟨S_, .f32⟩
  | 96 => ⟨S100x4, .f32⟩
  | 97 => ⟨S_, .i32⟩
  | 98 => ⟨S100, .i32⟩
  | 99 => ⟨S_, .f32⟩
  | 100 => ⟨S100, .f32⟩
  | 101 => ⟨S_, .i32⟩
  | 102 => ⟨S20000x4, .f32⟩
  | 103 => ⟨S20000, .i32⟩
  | 104 => ⟨S_, .i32⟩
  | 105 => ⟨S20000, .f32⟩
  | 106 => ⟨S100x4, .f32⟩
  | 107 => ⟨S100, .i32⟩
  | 108 => ⟨S100, .f32⟩
  | 109 => ⟨S_, .i32⟩
  | 110 => ⟨S_, .i1⟩
  | 111 => ⟨S1, .f32⟩
  | 112 => ⟨S1, .i32⟩
  | 113 => ⟨S_, .i32⟩
  | 114 => ⟨S_, .i32⟩
  | 115 => ⟨S_, .i1⟩
  | 116 => ⟨S_, .i32⟩
  | 117 => ⟨S_, .i32⟩
  | 118 => ⟨S_, .i32⟩
  | 119 => ⟨S1, .f32⟩
  | 120 => ⟨S_, .f32⟩
  | 121 => ⟨S_, .i32⟩
  | 122 => ⟨S_, .i1⟩
  | 123 => ⟨S_, .i32⟩
  | 124 => ⟨S_, .i32⟩
  | 125 => ⟨S_, .i32⟩
  | 126 => ⟨S_, .i32⟩
  | 127 => ⟨S_, .i32⟩
  | _ => ⟨S20000x81, .f32⟩

abbrev hbmTy0_2 (i : Nat) : BufTy := match i % 128 with
  | 0 => ⟨S_, .i1⟩
  | 1 => ⟨S_, .i32⟩
  | 2 => ⟨S_, .i32⟩
  | 3 => ⟨S_, .i32⟩
  | 4 => ⟨S_, .i32⟩
  | 5 => ⟨S_, .i32⟩
  | 6 => ⟨S1x4, .f32⟩
  | 7 => ⟨S4, .f32⟩
  | 8 => ⟨S1, .f32⟩
  | 9 => ⟨S_, .f32⟩
  | 10 => ⟨S1, .f32⟩
  | 11 => ⟨S_, .f32⟩
  | 12 => ⟨S_, .f32⟩
  | 13 => ⟨S_, .f32⟩
  | 14 => ⟨S_, .f32⟩
  | 15 => ⟨S1, .f32⟩
  | 16 => ⟨S_, .f32⟩
  | 17 => ⟨S1, .f32⟩
  | 18 => ⟨S_, .f32⟩
  | 19 => ⟨S_, .f32⟩
  | 20 => ⟨S_, .f32⟩
  | 21 => ⟨S_, .f32⟩
  | 22 => ⟨S_, .f32⟩
  | 23 => ⟨S20000x1, .f32⟩
  | 24 => ⟨S20000, .f32⟩
  | 25 => ⟨S20000x1, .f32⟩
  | 26 => ⟨S20000, .f32⟩
  | 27 => ⟨S20000, .f32⟩
  | 28 => ⟨S_, .f32⟩
  | 29 => ⟨S20000, .f32⟩
  | 30 => ⟨S20000, .f32⟩
  | 31 => ⟨S20000x1, .f32⟩
  | 32 => ⟨S20000, .f32⟩
  | 33 => ⟨S20000x1, .f32⟩
  | 34 => ⟨S20000, .f32⟩
  | 35 => ⟨S20000, .f32⟩
  | 36 => ⟨S_, .f32⟩
  | 37 => ⟨S20000, .f32⟩
  | 38 => ⟨S20000, .f32⟩
  | 39 => ⟨S20000, .f32⟩
  | 40 => ⟨S1, .f32⟩
  | 41 => ⟨S_, .f32⟩
  | 42 => ⟨S20000x1, .f32⟩
  | 43 => ⟨S20000, .f32⟩
  | 44 => ⟨S20000, .f32⟩
  | 45 => ⟨S20000, .f32⟩
  | 46 => ⟨S1, .f32⟩
  | 47 => ⟨S_, .f32⟩
  | 48 => ⟨S20000x1, .f32⟩
  | 49 => ⟨S20000, .f32⟩
  | 50 => ⟨S20000, .f32⟩
  | 51 => ⟨S20000, .f32⟩
  | 52 => ⟨S1, .f32⟩
  | 53 => ⟨S_, .f32⟩
  | 54 => ⟨S20000x1, .f32⟩
  | 55 => ⟨S20000, .f32⟩
  | 56 => ⟨S20000, .f32⟩
  | 57 => ⟨S20000, .f32⟩
  | 58 => ⟨S1, .f32⟩
  | 59 => ⟨S_, .f32⟩
  | 60 => ⟨S20000x1, .f32⟩
  | 61 => ⟨S20000, .f32⟩
  | 62 => ⟨S20000, .f32⟩
  | 63 => ⟨S20000, .f32⟩
  | 64 => ⟨S20000, .f32⟩
  | 65 => ⟨S_, .f32⟩
  | 66 => ⟨S20000, .f32⟩
  | 67 => ⟨S20000, .f32⟩
  | 68 => ⟨S_, .f32⟩
  | 69 => ⟨S20000, .f32⟩
  | 70 => ⟨S20000, .f32⟩
  | 71 => ⟨S20000, .f32⟩
  | 72 => ⟨S_, .f32⟩
  | 73 => ⟨S20000, .f32⟩
  | 74 => ⟨S20000, .f32⟩
  | 75 => ⟨S_, .f32⟩
  | 76 => ⟨S20000, .f32⟩
  | 77 => ⟨S20000, .f32⟩
  | 78 => ⟨S20000, .f32⟩
  | 79 => ⟨S20000, .f32⟩
  | 80 => ⟨S20000, .f32⟩
  | 81 => ⟨S20000, .f32⟩
  | 82 => ⟨S20000, .f32⟩
  | 83 => ⟨S_, .f32⟩
  | 84 => ⟨S20000, .f32⟩
  | 85 => ⟨S20000, .i1⟩
  | 86 => ⟨S_, .i32⟩
  | 87 => ⟨S_, .i1⟩
  | 88 => ⟨S_, .i32⟩
  | 89 => ⟨S_, .i32⟩
  | 90 => ⟨S_, .i32⟩
  | 91 => ⟨S1, .i32⟩
  | 92 => ⟨S_, .f32⟩
  | 93 => ⟨S20000, .f32⟩
  | 94 => ⟨S_, .f32⟩
  | 95 => ⟨S_, .f32⟩
  | 96 => ⟨S20000, .f32⟩
  | 97 => ⟨S20000, .f32⟩
  | 98 => ⟨S_, .i32⟩
  | 99 => ⟨S_, .i1⟩
  | 100 => ⟨S_, .i32⟩
  | 101 => ⟨S_, .i32⟩
  | 102 => ⟨S_, .i32⟩
  | 103 => ⟨S1, .i32⟩
  | 104 => ⟨S_, .i32⟩
  | 105 => ⟨S1x4, .f32⟩
  | 106 => ⟨S_, .i32⟩
  | 107 => ⟨S100x4, .f32⟩
  | 108 => ⟨S1, .i32⟩
  | 109 => ⟨S100, .i32⟩
  | 110 => ⟨S1, .f32⟩
  | 111 => ⟨S100, .f32⟩
  | 112 => ⟨S_, .i32⟩
  | 113 => ⟨S_, .i32⟩
  | 114 => ⟨S_, .f32⟩
  | 115 => ⟨S100, .f32⟩
  | 116 => ⟨S100, .i1⟩
  | 117 => ⟨S_, .f32⟩
  | 118 => ⟨S_, .f32⟩
  | 119 => ⟨S100, .f32⟩
  | 120 => ⟨S100, .f32⟩
  | 121 => ⟨S100x1, .i1⟩
  | 122 => ⟨S100x1, .f32⟩
  | 123 => ⟨S100x4, .f32⟩
  | 124 => ⟨S100x4, .f32⟩
  | 125 => ⟨S_, .i32⟩
  | 126 => ⟨S_, .i32⟩
  | 127 => ⟨S100, .i32⟩
  | _ => ⟨S20000x81, .f32⟩

abbrev hbmTy0_3 (i : Nat) : BufTy := match i % 128 with
  | 0 => ⟨S100, .i32⟩
  | _ => ⟨S20000x81, .f32⟩

abbrev hbmTy (i : Nat) : BufTy := match i / 128 with
  | 0 => hbmTy0_0 i
  | 1 => hbmTy0_1 i
  | 2 => hbmTy0_2 i
  | 3 => hbmTy0_3 i
  | _ => ⟨S20000x81, .f32⟩

abbrev bufTy : (tb : Table) → Fin (tcTables nBuf tb) → BufTy
  | .hbm, ⟨i, _⟩ => hbmTy i
  | _, _ => ⟨S20000x81, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_cst_0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst_1 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_cst_2 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_cst_3 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_cst_4 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_cst_5 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_cst_6 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_cst_7 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_cst_8 : Ref sig .tc := ⟨.hbm, 54, rfl⟩
abbrev main_v42 : Ref sig .tc := ⟨.hbm, 55, rfl⟩
abbrev main_v43 : Ref sig .tc := ⟨.hbm, 56, rfl⟩
abbrev main_cst_9 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_cst_10 : Ref sig .tc := ⟨.hbm, 61, rfl⟩
abbrev main_v47 : Ref sig .tc := ⟨.hbm, 62, rfl⟩
abbrev main_v48 : Ref sig .tc := ⟨.hbm, 63, rfl⟩
abbrev main_cst_11 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩
abbrev main_v53 : Ref sig .tc := ⟨.hbm, 69, rfl⟩
abbrev main_v54 : Ref sig .tc := ⟨.hbm, 70, rfl⟩
abbrev main_v55 : Ref sig .tc := ⟨.hbm, 71, rfl⟩
abbrev main_v56 : Ref sig .tc := ⟨.hbm, 72, rfl⟩
abbrev main_v57 : Ref sig .tc := ⟨.hbm, 73, rfl⟩
abbrev main_v58 : Ref sig .tc := ⟨.hbm, 74, rfl⟩
abbrev main_v59 : Ref sig .tc := ⟨.hbm, 75, rfl⟩
abbrev main_v60 : Ref sig .tc := ⟨.hbm, 76, rfl⟩
abbrev main_v61 : Ref sig .tc := ⟨.hbm, 77, rfl⟩
abbrev main_v62 : Ref sig .tc := ⟨.hbm, 78, rfl⟩
abbrev main_v63 : Ref sig .tc := ⟨.hbm, 79, rfl⟩
abbrev main_v64 : Ref sig .tc := ⟨.hbm, 80, rfl⟩
abbrev main_v65 : Ref sig .tc := ⟨.hbm, 81, rfl⟩
abbrev main_v66 : Ref sig .tc := ⟨.hbm, 82, rfl⟩
abbrev main_v67 : Ref sig .tc := ⟨.hbm, 83, rfl⟩
abbrev main_v68 : Ref sig .tc := ⟨.hbm, 84, rfl⟩
abbrev main_v69 : Ref sig .tc := ⟨.hbm, 85, rfl⟩
abbrev main_v70 : Ref sig .tc := ⟨.hbm, 86, rfl⟩
abbrev main_cst_12 : Ref sig .tc := ⟨.hbm, 87, rfl⟩
abbrev main_v71 : Ref sig .tc := ⟨.hbm, 88, rfl⟩
abbrev main_v72 : Ref sig .tc := ⟨.hbm, 89, rfl⟩
abbrev main_v73 : Ref sig .tc := ⟨.hbm, 90, rfl⟩
abbrev main_cst_13 : Ref sig .tc := ⟨.hbm, 91, rfl⟩
abbrev main_v74 : Ref sig .tc := ⟨.hbm, 92, rfl⟩
abbrev main_v75 : Ref sig .tc := ⟨.hbm, 93, rfl⟩
abbrev main_v76 : Ref sig .tc := ⟨.hbm, 94, rfl⟩
abbrev main_cst_14 : Ref sig .tc := ⟨.hbm, 95, rfl⟩
abbrev main_v77 : Ref sig .tc := ⟨.hbm, 96, rfl⟩
abbrev main_v78 : Ref sig .tc := ⟨.hbm, 97, rfl⟩
abbrev main_v79 : Ref sig .tc := ⟨.hbm, 98, rfl⟩
abbrev main_cst_15 : Ref sig .tc := ⟨.hbm, 99, rfl⟩
abbrev main_v80 : Ref sig .tc := ⟨.hbm, 100, rfl⟩
abbrev main_v81 : Ref sig .tc := ⟨.hbm, 101, rfl⟩
abbrev main_cst_16 : Ref sig .tc := ⟨.hbm, 102, rfl⟩
abbrev main_v82 : Ref sig .tc := ⟨.hbm, 103, rfl⟩
abbrev main_v83 : Ref sig .tc := ⟨.hbm, 104, rfl⟩
abbrev main_v84 : Ref sig .tc := ⟨.hbm, 105, rfl⟩
abbrev main_cst_17 : Ref sig .tc := ⟨.hbm, 106, rfl⟩
abbrev main_v85 : Ref sig .tc := ⟨.hbm, 107, rfl⟩
abbrev main_v86 : Ref sig .tc := ⟨.hbm, 108, rfl⟩
abbrev main_v87 : Ref sig .tc := ⟨.hbm, 109, rfl⟩
abbrev main_v88 : Ref sig .tc := ⟨.hbm, 110, rfl⟩
abbrev main_v89 : Ref sig .tc := ⟨.hbm, 111, rfl⟩
abbrev main_v90 : Ref sig .tc := ⟨.hbm, 112, rfl⟩
abbrev main_v91 : Ref sig .tc := ⟨.hbm, 113, rfl⟩
abbrev main_v92 : Ref sig .tc := ⟨.hbm, 114, rfl⟩
abbrev main_v93 : Ref sig .tc := ⟨.hbm, 115, rfl⟩
abbrev main_cst_18 : Ref sig .tc := ⟨.hbm, 116, rfl⟩
abbrev main_cst_19 : Ref sig .tc := ⟨.hbm, 117, rfl⟩
abbrev main_call0_v0 : Ref sig .tc := ⟨.hbm, 118, rfl⟩
abbrev main_call0_v1 : Ref sig .tc := ⟨.hbm, 119, rfl⟩
abbrev main_call0_v2 : Ref sig .tc := ⟨.hbm, 120, rfl⟩
abbrev main_call0_v3 : Ref sig .tc := ⟨.hbm, 121, rfl⟩
abbrev main_call0_v4 : Ref sig .tc := ⟨.hbm, 122, rfl⟩
abbrev main_v94 : Ref sig .tc := ⟨.hbm, 123, rfl⟩
abbrev main_v95 : Ref sig .tc := ⟨.hbm, 124, rfl⟩
abbrev main_v96 : Ref sig .tc := ⟨.hbm, 125, rfl⟩
abbrev main_cst_20 : Ref sig .tc := ⟨.hbm, 126, rfl⟩
abbrev main_cst_21 : Ref sig .tc := ⟨.hbm, 127, rfl⟩
abbrev main_call1_v0 : Ref sig .tc := ⟨.hbm, 128, rfl⟩
abbrev main_call1_v1 : Ref sig .tc := ⟨.hbm, 129, rfl⟩
abbrev main_call1_v2 : Ref sig .tc := ⟨.hbm, 130, rfl⟩
abbrev main_call1_v3 : Ref sig .tc := ⟨.hbm, 131, rfl⟩
abbrev main_call1_v4 : Ref sig .tc := ⟨.hbm, 132, rfl⟩
abbrev main_v97 : Ref sig .tc := ⟨.hbm, 133, rfl⟩
abbrev main_v98 : Ref sig .tc := ⟨.hbm, 134, rfl⟩
abbrev main_v99 : Ref sig .tc := ⟨.hbm, 135, rfl⟩
abbrev main_cst_22 : Ref sig .tc := ⟨.hbm, 136, rfl⟩
abbrev main_cst_23 : Ref sig .tc := ⟨.hbm, 137, rfl⟩
abbrev main_call2_v0 : Ref sig .tc := ⟨.hbm, 138, rfl⟩
abbrev main_call2_v1 : Ref sig .tc := ⟨.hbm, 139, rfl⟩
abbrev main_call2_v2 : Ref sig .tc := ⟨.hbm, 140, rfl⟩
abbrev main_call2_v3 : Ref sig .tc := ⟨.hbm, 141, rfl⟩
abbrev main_call2_v4 : Ref sig .tc := ⟨.hbm, 142, rfl⟩
abbrev main_v100 : Ref sig .tc := ⟨.hbm, 143, rfl⟩
abbrev main_v101 : Ref sig .tc := ⟨.hbm, 144, rfl⟩
abbrev main_v102 : Ref sig .tc := ⟨.hbm, 145, rfl⟩
abbrev main_cst_24 : Ref sig .tc := ⟨.hbm, 146, rfl⟩
abbrev main_cst_25 : Ref sig .tc := ⟨.hbm, 147, rfl⟩
abbrev main_call3_v0 : Ref sig .tc := ⟨.hbm, 148, rfl⟩
abbrev main_call3_v1 : Ref sig .tc := ⟨.hbm, 149, rfl⟩
abbrev main_call3_v2 : Ref sig .tc := ⟨.hbm, 150, rfl⟩
abbrev main_call3_v3 : Ref sig .tc := ⟨.hbm, 151, rfl⟩
abbrev main_call3_v4 : Ref sig .tc := ⟨.hbm, 152, rfl⟩
abbrev main_v103 : Ref sig .tc := ⟨.hbm, 153, rfl⟩
abbrev main_v104 : Ref sig .tc := ⟨.hbm, 154, rfl⟩
abbrev main_v105 : Ref sig .tc := ⟨.hbm, 155, rfl⟩
abbrev main_v106 : Ref sig .tc := ⟨.hbm, 156, rfl⟩
abbrev main_v107 : Ref sig .tc := ⟨.hbm, 157, rfl⟩
abbrev main_v108 : Ref sig .tc := ⟨.hbm, 158, rfl⟩
abbrev main_values : Ref sig .tc := ⟨.hbm, 159, rfl⟩
abbrev main_indices : Ref sig .tc := ⟨.hbm, 160, rfl⟩
abbrev main_v109 : Ref sig .tc := ⟨.hbm, 161, rfl⟩
abbrev main_v110 : Ref sig .tc := ⟨.hbm, 162, rfl⟩
abbrev main_call4_c : Ref sig .tc := ⟨.hbm, 163, rfl⟩
abbrev main_call4_v0 : Ref sig .tc := ⟨.hbm, 164, rfl⟩
abbrev main_call4_v1 : Ref sig .tc := ⟨.hbm, 165, rfl⟩
abbrev main_call4_c_0 : Ref sig .tc := ⟨.hbm, 166, rfl⟩
abbrev main_call4_v2 : Ref sig .tc := ⟨.hbm, 167, rfl⟩
abbrev main_call4_v3 : Ref sig .tc := ⟨.hbm, 168, rfl⟩
abbrev main_call4_v4 : Ref sig .tc := ⟨.hbm, 169, rfl⟩
abbrev main_call4_v5 : Ref sig .tc := ⟨.hbm, 170, rfl⟩
abbrev main_call4_c_1 : Ref sig .tc := ⟨.hbm, 171, rfl⟩
abbrev main_call4_c_2 : Ref sig .tc := ⟨.hbm, 172, rfl⟩
abbrev main_call4_v6 : Ref sig .tc := ⟨.hbm, 173, rfl⟩
abbrev main_call4_v7 : Ref sig .tc := ⟨.hbm, 174, rfl⟩
abbrev main_call4_v8 : Ref sig .tc := ⟨.hbm, 175, rfl⟩
abbrev main_call4_v9 : Ref sig .tc := ⟨.hbm, 176, rfl⟩
abbrev main_call4_v10 : Ref sig .tc := ⟨.hbm, 177, rfl⟩
abbrev main_call4_v11 : Ref sig .tc := ⟨.hbm, 178, rfl⟩
abbrev main_call4_c_3 : Ref sig .tc := ⟨.hbm, 179, rfl⟩
abbrev main_call4_v12 : Ref sig .tc := ⟨.hbm, 180, rfl⟩
abbrev main_call4_v13 : Ref sig .tc := ⟨.hbm, 181, rfl⟩
abbrev main_call4_cst : Ref sig .tc := ⟨.hbm, 182, rfl⟩
abbrev main_call4_v14 : Ref sig .tc := ⟨.hbm, 183, rfl⟩
abbrev main_v111 : Ref sig .tc := ⟨.hbm, 184, rfl⟩
abbrev main_v112 : Ref sig .tc := ⟨.hbm, 185, rfl⟩
abbrev main_v113 : Ref sig .tc := ⟨.hbm, 186, rfl⟩
abbrev main_v114 : Ref sig .tc := ⟨.hbm, 187, rfl⟩
abbrev main_v115 : Ref sig .tc := ⟨.hbm, 188, rfl⟩
abbrev main_call5_c : Ref sig .tc := ⟨.hbm, 189, rfl⟩
abbrev main_call5_v0 : Ref sig .tc := ⟨.hbm, 190, rfl⟩
abbrev main_call5_v1 : Ref sig .tc := ⟨.hbm, 191, rfl⟩
abbrev main_call5_c_0 : Ref sig .tc := ⟨.hbm, 192, rfl⟩
abbrev main_call5_v2 : Ref sig .tc := ⟨.hbm, 193, rfl⟩
abbrev main_call5_v3 : Ref sig .tc := ⟨.hbm, 194, rfl⟩
abbrev main_call5_v4 : Ref sig .tc := ⟨.hbm, 195, rfl⟩
abbrev main_call5_c_1 : Ref sig .tc := ⟨.hbm, 196, rfl⟩
abbrev main_call5_c_2 : Ref sig .tc := ⟨.hbm, 197, rfl⟩
abbrev main_call5_v5 : Ref sig .tc := ⟨.hbm, 198, rfl⟩
abbrev main_call5_v6 : Ref sig .tc := ⟨.hbm, 199, rfl⟩
abbrev main_call5_v7 : Ref sig .tc := ⟨.hbm, 200, rfl⟩
abbrev main_call5_v8 : Ref sig .tc := ⟨.hbm, 201, rfl⟩
abbrev main_call5_v9 : Ref sig .tc := ⟨.hbm, 202, rfl⟩
abbrev main_call5_v10 : Ref sig .tc := ⟨.hbm, 203, rfl⟩
abbrev main_call5_c_3 : Ref sig .tc := ⟨.hbm, 204, rfl⟩
abbrev main_call5_v11 : Ref sig .tc := ⟨.hbm, 205, rfl⟩
abbrev main_call5_v12 : Ref sig .tc := ⟨.hbm, 206, rfl⟩
abbrev main_call5_v13 : Ref sig .tc := ⟨.hbm, 207, rfl⟩
abbrev main_call5_cst : Ref sig .tc := ⟨.hbm, 208, rfl⟩
abbrev main_call5_v14 : Ref sig .tc := ⟨.hbm, 209, rfl⟩
abbrev main_v116 : Ref sig .tc := ⟨.hbm, 210, rfl⟩
abbrev main_v117 : Ref sig .tc := ⟨.hbm, 211, rfl⟩
abbrev main_c : Ref sig .tc := ⟨.hbm, 212, rfl⟩
abbrev main_v118 : Ref sig .tc := ⟨.hbm, 213, rfl⟩
abbrev main_v119 : Ref sig .tc := ⟨.hbm, 214, rfl⟩
abbrev main_cst_26 : Ref sig .tc := ⟨.hbm, 215, rfl⟩
abbrev main_v120 : Ref sig .tc := ⟨.hbm, 216, rfl⟩
abbrev main_v121 : Ref sig .tc := ⟨.hbm, 217, rfl⟩
abbrev main_v122 : Ref sig .tc := ⟨.hbm, 218, rfl⟩
abbrev main_cst_27 : Ref sig .tc := ⟨.hbm, 219, rfl⟩
abbrev main_call6_v0 : Ref sig .tc := ⟨.hbm, 220, rfl⟩
abbrev main_call6_v1 : Ref sig .tc := ⟨.hbm, 221, rfl⟩
abbrev main_v123 : Ref sig .tc := ⟨.hbm, 222, rfl⟩
abbrev main_cst_28 : Ref sig .tc := ⟨.hbm, 223, rfl⟩
abbrev main_v124 : Ref sig .tc := ⟨.hbm, 224, rfl⟩
abbrev main_c_29 : Ref sig .tc := ⟨.hbm, 225, rfl⟩
abbrev main_v125 : Ref sig .tc := ⟨.hbm, 226, rfl⟩
abbrev main_cst_30 : Ref sig .tc := ⟨.hbm, 227, rfl⟩
abbrev main_v126 : Ref sig .tc := ⟨.hbm, 228, rfl⟩
abbrev main_c_31 : Ref sig .tc := ⟨.hbm, 229, rfl⟩
abbrev main_v127_0 : Ref sig .tc := ⟨.hbm, 230, rfl⟩
abbrev main_v127_1 : Ref sig .tc := ⟨.hbm, 231, rfl⟩
abbrev main_v127_2 : Ref sig .tc := ⟨.hbm, 232, rfl⟩
abbrev main_v127_3 : Ref sig .tc := ⟨.hbm, 233, rfl⟩
abbrev main_v127_4 : Ref sig .tc := ⟨.hbm, 234, rfl⟩
abbrev main_v127_5 : Ref sig .tc := ⟨.hbm, 235, rfl⟩
abbrev main_v127_6 : Ref sig .tc := ⟨.hbm, 236, rfl⟩
abbrev main_while0c_c_41 : Ref sig .tc := ⟨.hbm, 237, rfl⟩
abbrev main_while0c_v136 : Ref sig .tc := ⟨.hbm, 238, rfl⟩
abbrev main_while0b_values_41 : Ref sig .tc := ⟨.hbm, 239, rfl⟩
abbrev main_while0b_indices_42 : Ref sig .tc := ⟨.hbm, 240, rfl⟩
abbrev main_while0b_v136 : Ref sig .tc := ⟨.hbm, 241, rfl⟩
abbrev main_while0b_c_43 : Ref sig .tc := ⟨.hbm, 242, rfl⟩
abbrev main_while0b_v137 : Ref sig .tc := ⟨.hbm, 243, rfl⟩
abbrev main_while0b_c_44 : Ref sig .tc := ⟨.hbm, 244, rfl⟩
abbrev main_while0b_v138 : Ref sig .tc := ⟨.hbm, 245, rfl⟩
abbrev main_while0b_v139 : Ref sig .tc := ⟨.hbm, 246, rfl⟩
abbrev main_while0b_v140 : Ref sig .tc := ⟨.hbm, 247, rfl⟩
abbrev main_while0b_v141 : Ref sig .tc := ⟨.hbm, 248, rfl⟩
abbrev main_while0b_c_45 : Ref sig .tc := ⟨.hbm, 249, rfl⟩
abbrev main_while0b_v142 : Ref sig .tc := ⟨.hbm, 250, rfl⟩
abbrev main_while0b_c_46 : Ref sig .tc := ⟨.hbm, 251, rfl⟩
abbrev main_while0b_v143 : Ref sig .tc := ⟨.hbm, 252, rfl⟩
abbrev main_while0b_v144 : Ref sig .tc := ⟨.hbm, 253, rfl⟩
abbrev main_while0b_c_47 : Ref sig .tc := ⟨.hbm, 254, rfl⟩
abbrev main_while0b_c_48 : Ref sig .tc := ⟨.hbm, 255, rfl⟩
abbrev main_while0b_v145 : Ref sig .tc := ⟨.hbm, 256, rfl⟩
abbrev main_while0b_c_49 : Ref sig .tc := ⟨.hbm, 257, rfl⟩
abbrev main_while0b_c_50 : Ref sig .tc := ⟨.hbm, 258, rfl⟩
abbrev main_while0b_v146 : Ref sig .tc := ⟨.hbm, 259, rfl⟩
abbrev main_while0b_c_51 : Ref sig .tc := ⟨.hbm, 260, rfl⟩
abbrev main_while0b_v147 : Ref sig .tc := ⟨.hbm, 261, rfl⟩
abbrev main_while0b_v148 : Ref sig .tc := ⟨.hbm, 262, rfl⟩
abbrev main_while0b_v149 : Ref sig .tc := ⟨.hbm, 263, rfl⟩
abbrev main_while0b_v150 : Ref sig .tc := ⟨.hbm, 264, rfl⟩
abbrev main_while0b_v151 : Ref sig .tc := ⟨.hbm, 265, rfl⟩
abbrev main_while0b_v152 : Ref sig .tc := ⟨.hbm, 266, rfl⟩
abbrev main_while0b_v153 : Ref sig .tc := ⟨.hbm, 267, rfl⟩
abbrev main_while0b_v154 : Ref sig .tc := ⟨.hbm, 268, rfl⟩
abbrev main_while0b_cst_52 : Ref sig .tc := ⟨.hbm, 269, rfl⟩
abbrev main_while0b_v155 : Ref sig .tc := ⟨.hbm, 270, rfl⟩
abbrev main_while0b_v156 : Ref sig .tc := ⟨.hbm, 271, rfl⟩
abbrev main_while0b_v157 : Ref sig .tc := ⟨.hbm, 272, rfl⟩
abbrev main_while0b_v158 : Ref sig .tc := ⟨.hbm, 273, rfl⟩
abbrev main_while0b_v159 : Ref sig .tc := ⟨.hbm, 274, rfl⟩
abbrev main_while0b_v160 : Ref sig .tc := ⟨.hbm, 275, rfl⟩
abbrev main_while0b_cst_53 : Ref sig .tc := ⟨.hbm, 276, rfl⟩
abbrev main_while0b_v161 : Ref sig .tc := ⟨.hbm, 277, rfl⟩
abbrev main_while0b_v162 : Ref sig .tc := ⟨.hbm, 278, rfl⟩
abbrev main_while0b_v163 : Ref sig .tc := ⟨.hbm, 279, rfl⟩
abbrev main_while0b_v164 : Ref sig .tc := ⟨.hbm, 280, rfl⟩
abbrev main_while0b_v165 : Ref sig .tc := ⟨.hbm, 281, rfl⟩
abbrev main_while0b_v166 : Ref sig .tc := ⟨.hbm, 282, rfl⟩
abbrev main_while0b_v167 : Ref sig .tc := ⟨.hbm, 283, rfl⟩
abbrev main_while0b_cst_54 : Ref sig .tc := ⟨.hbm, 284, rfl⟩
abbrev main_while0b_v168 : Ref sig .tc := ⟨.hbm, 285, rfl⟩
abbrev main_while0b_v169 : Ref sig .tc := ⟨.hbm, 286, rfl⟩
abbrev main_while0b_v170 : Ref sig .tc := ⟨.hbm, 287, rfl⟩
abbrev main_while0b_v171 : Ref sig .tc := ⟨.hbm, 288, rfl⟩
abbrev main_while0b_v172 : Ref sig .tc := ⟨.hbm, 289, rfl⟩
abbrev main_while0b_v173 : Ref sig .tc := ⟨.hbm, 290, rfl⟩
abbrev main_while0b_v174 : Ref sig .tc := ⟨.hbm, 291, rfl⟩
abbrev main_while0b_cst_55 : Ref sig .tc := ⟨.hbm, 292, rfl⟩
abbrev main_while0b_v175 : Ref sig .tc := ⟨.hbm, 293, rfl⟩
abbrev main_while0b_v176 : Ref sig .tc := ⟨.hbm, 294, rfl⟩
abbrev main_while0b_v177 : Ref sig .tc := ⟨.hbm, 295, rfl⟩
abbrev main_while0b_v178 : Ref sig .tc := ⟨.hbm, 296, rfl⟩
abbrev main_while0b_v179 : Ref sig .tc := ⟨.hbm, 297, rfl⟩
abbrev main_while0b_v180 : Ref sig .tc := ⟨.hbm, 298, rfl⟩
abbrev main_while0b_v181 : Ref sig .tc := ⟨.hbm, 299, rfl⟩
abbrev main_while0b_v182 : Ref sig .tc := ⟨.hbm, 300, rfl⟩
abbrev main_while0b_v183 : Ref sig .tc := ⟨.hbm, 301, rfl⟩
abbrev main_while0b_v184 : Ref sig .tc := ⟨.hbm, 302, rfl⟩
abbrev main_while0b_v185 : Ref sig .tc := ⟨.hbm, 303, rfl⟩
abbrev main_while0b_v186 : Ref sig .tc := ⟨.hbm, 304, rfl⟩
abbrev main_while0b_v187 : Ref sig .tc := ⟨.hbm, 305, rfl⟩
abbrev main_while0b_v188 : Ref sig .tc := ⟨.hbm, 306, rfl⟩
abbrev main_while0b_v189 : Ref sig .tc := ⟨.hbm, 307, rfl⟩
abbrev main_while0b_v190 : Ref sig .tc := ⟨.hbm, 308, rfl⟩
abbrev main_while0b_v191 : Ref sig .tc := ⟨.hbm, 309, rfl⟩
abbrev main_while0b_v192 : Ref sig .tc := ⟨.hbm, 310, rfl⟩
abbrev main_while0b_v193 : Ref sig .tc := ⟨.hbm, 311, rfl⟩
abbrev main_while0b_v194 : Ref sig .tc := ⟨.hbm, 312, rfl⟩
abbrev main_while0b_v195 : Ref sig .tc := ⟨.hbm, 313, rfl⟩
abbrev main_while0b_v196 : Ref sig .tc := ⟨.hbm, 314, rfl⟩
abbrev main_while0b_v197 : Ref sig .tc := ⟨.hbm, 315, rfl⟩
abbrev main_while0b_v198 : Ref sig .tc := ⟨.hbm, 316, rfl⟩
abbrev main_while0b_v199 : Ref sig .tc := ⟨.hbm, 317, rfl⟩
abbrev main_while0b_v200 : Ref sig .tc := ⟨.hbm, 318, rfl⟩
abbrev main_while0b_v201 : Ref sig .tc := ⟨.hbm, 319, rfl⟩
abbrev main_while0b_v202 : Ref sig .tc := ⟨.hbm, 320, rfl⟩
abbrev main_while0b_cst_56 : Ref sig .tc := ⟨.hbm, 321, rfl⟩
abbrev main_while0b_v203 : Ref sig .tc := ⟨.hbm, 322, rfl⟩
abbrev main_while0b_v204 : Ref sig .tc := ⟨.hbm, 323, rfl⟩
abbrev main_while0b_cst_57 : Ref sig .tc := ⟨.hbm, 324, rfl⟩
abbrev main_while0b_v205 : Ref sig .tc := ⟨.hbm, 325, rfl⟩
abbrev main_while0b_v206 : Ref sig .tc := ⟨.hbm, 326, rfl⟩
abbrev main_while0b_v207 : Ref sig .tc := ⟨.hbm, 327, rfl⟩
abbrev main_while0b_cst_58 : Ref sig .tc := ⟨.hbm, 328, rfl⟩
abbrev main_while0b_v208 : Ref sig .tc := ⟨.hbm, 329, rfl⟩
abbrev main_while0b_v209 : Ref sig .tc := ⟨.hbm, 330, rfl⟩
abbrev main_while0b_cst_59 : Ref sig .tc := ⟨.hbm, 331, rfl⟩
abbrev main_while0b_v210 : Ref sig .tc := ⟨.hbm, 332, rfl⟩
abbrev main_while0b_v211 : Ref sig .tc := ⟨.hbm, 333, rfl⟩
abbrev main_while0b_v212 : Ref sig .tc := ⟨.hbm, 334, rfl⟩
abbrev main_while0b_v213 : Ref sig .tc := ⟨.hbm, 335, rfl⟩
abbrev main_while0b_v214 : Ref sig .tc := ⟨.hbm, 336, rfl⟩
abbrev main_while0b_v215 : Ref sig .tc := ⟨.hbm, 337, rfl⟩
abbrev main_while0b_v216 : Ref sig .tc := ⟨.hbm, 338, rfl⟩
abbrev main_while0b_cst_60 : Ref sig .tc := ⟨.hbm, 339, rfl⟩
abbrev main_while0b_v217 : Ref sig .tc := ⟨.hbm, 340, rfl⟩
abbrev main_while0b_v218 : Ref sig .tc := ⟨.hbm, 341, rfl⟩
abbrev main_while0b_c_61 : Ref sig .tc := ⟨.hbm, 342, rfl⟩
abbrev main_while0b_v219 : Ref sig .tc := ⟨.hbm, 343, rfl⟩
abbrev main_while0b_c_62 : Ref sig .tc := ⟨.hbm, 344, rfl⟩
abbrev main_while0b_v220 : Ref sig .tc := ⟨.hbm, 345, rfl⟩
abbrev main_while0b_v221 : Ref sig .tc := ⟨.hbm, 346, rfl⟩
abbrev main_while0b_v222 : Ref sig .tc := ⟨.hbm, 347, rfl⟩
abbrev main_while0b_cst_63 : Ref sig .tc := ⟨.hbm, 348, rfl⟩
abbrev main_while0b_v223 : Ref sig .tc := ⟨.hbm, 349, rfl⟩
abbrev main_while0b_cst_64 : Ref sig .tc := ⟨.hbm, 350, rfl⟩
abbrev main_while0b_call7_v0 : Ref sig .tc := ⟨.hbm, 351, rfl⟩
abbrev main_while0b_call7_v1 : Ref sig .tc := ⟨.hbm, 352, rfl⟩
abbrev main_while0b_v224 : Ref sig .tc := ⟨.hbm, 353, rfl⟩
abbrev main_while0b_c_65 : Ref sig .tc := ⟨.hbm, 354, rfl⟩
abbrev main_while0b_v225 : Ref sig .tc := ⟨.hbm, 355, rfl⟩
abbrev main_while0b_c_66 : Ref sig .tc := ⟨.hbm, 356, rfl⟩
abbrev main_while0b_v226 : Ref sig .tc := ⟨.hbm, 357, rfl⟩
abbrev main_while0b_v227 : Ref sig .tc := ⟨.hbm, 358, rfl⟩
abbrev main_while0b_v228 : Ref sig .tc := ⟨.hbm, 359, rfl⟩
abbrev main_while0b_v229 : Ref sig .tc := ⟨.hbm, 360, rfl⟩
abbrev main_while0b_call8_v0 : Ref sig .tc := ⟨.hbm, 361, rfl⟩
abbrev main_while0b_call8_c : Ref sig .tc := ⟨.hbm, 362, rfl⟩
abbrev main_while0b_v230 : Ref sig .tc := ⟨.hbm, 363, rfl⟩
abbrev main_while0b_call9_v0 : Ref sig .tc := ⟨.hbm, 364, rfl⟩
abbrev main_while0b_v231 : Ref sig .tc := ⟨.hbm, 365, rfl⟩
abbrev main_while0b_call10_v0 : Ref sig .tc := ⟨.hbm, 366, rfl⟩
abbrev main_while0b_v232 : Ref sig .tc := ⟨.hbm, 367, rfl⟩
abbrev main_while0b_c_67 : Ref sig .tc := ⟨.hbm, 368, rfl⟩
abbrev main_while0b_v233 : Ref sig .tc := ⟨.hbm, 369, rfl⟩
abbrev main_cst_32 : Ref sig .tc := ⟨.hbm, 370, rfl⟩
abbrev main_v128 : Ref sig .tc := ⟨.hbm, 371, rfl⟩
abbrev main_v129 : Ref sig .tc := ⟨.hbm, 372, rfl⟩
abbrev main_cst_33 : Ref sig .tc := ⟨.hbm, 373, rfl⟩
abbrev main_call11_v0 : Ref sig .tc := ⟨.hbm, 374, rfl⟩
abbrev main_call11_v1 : Ref sig .tc := ⟨.hbm, 375, rfl⟩
abbrev main_v130 : Ref sig .tc := ⟨.hbm, 376, rfl⟩
abbrev main_v131 : Ref sig .tc := ⟨.hbm, 377, rfl⟩
abbrev main_v132 : Ref sig .tc := ⟨.hbm, 378, rfl⟩
abbrev main_v133 : Ref sig .tc := ⟨.hbm, 379, rfl⟩
abbrev main_v134 : Ref sig .tc := ⟨.hbm, 380, rfl⟩
abbrev main_c_34 : Ref sig .tc := ⟨.hbm, 381, rfl⟩
abbrev main_call12_v0 : Ref sig .tc := ⟨.hbm, 382, rfl⟩
abbrev main_call12_v1 : Ref sig .tc := ⟨.hbm, 383, rfl⟩
abbrev main_v135 : Ref sig .tc := ⟨.hbm, 384, rfl⟩

abbrev nD : Nat := 1
abbrev τ : Topo := Topo.v7x

variable {F : FTy → Type} [FloatOps F]

abbrev main_while0_count : Scf.Loop 32 := ⟨0#32, 100#32, 1#32⟩
-- ==== Proof.KRun.lean ====
/-
  The kernel's run with its final contents: every buffer of the core ends at the contents `Gen.W16` names, so the three results are what
  the last stretch of host operations leaves of the second region's arrays.
-/
module

public import Idealize.ShloMosaic.PureOps.Ideal
public import proofs.«01_k».proof.Proof.Gen.KernelIdeal.Frame
public import Idealize.ShloMosaic.Lib.StableHlo.RunRead

@[expose] public section

set_option maxRecDepth 16384
noncomputable section

namespace Cert.KRun

open Idealize.ShloMosaic Idealize.ShloMosaic.TcCoe Idealize.ShloMosaic.Tactic Idealize.ShloMosaic.StableHlo
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

variable (m : (ℓ : Loc nD τ sig) → Buf (Elt F) ℓ) (ρ : Dev nD → PrngReg)

set_option backward.isDefEq.respectTransparency.types false in
/-- Every unscoped buffer ends at the last boundary's contents. -/
theorem ends : θ_run defs (onTc (τ := τ) (main (F := F))) ⟨m, fun _ => 0, ρ⟩ (fun r => ∀ c : Dev nD,
      ∀ b ∈ Pipeline.ucRefs τ sig, r.2.mem (((c : Thread nD τ)).1, b) = W16 m ρ c b) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp (MT nD τ sig Unit (Elt F) ℕ (UR sig nD τ) ℕ))
            ⊢ BI.own (emb₁ (initOf (Pipeline.cells cfgs cellOf_inj) (Pipeline.launchToks cfgs cellOf_inj))) from .rfl)
        iexact Hu
      iapply (show (BI.emp : sProp (MT nD τ sig Unit (Elt F) ℕ (UR sig nD τ) ℕ)) ⊢ bigSep Finset.univ (fun _ : Dev nD => (BI.emp : sProp (MT nD τ sig Unit (Elt F) ℕ (UR sig nD τ) ℕ))) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W16 m ρ c b)
    (hfin := fun c s' => by
      iintro ⟨⟨Hh, -⟩, HSI⟩
      unfold StableHlo.held
      imodintro
      iapply (pointsTo_read_all (Pipeline.ucRefs τ sig) (fun b => (((c : Thread nD τ)).1, b)) (W16 m ρ c) s')
      isplitl [Hh] <;> iassumption)
    (hQ := fun s h _ => h)

/-- An array of the second region when the region ends. -/
abbrev res (c : Dev nD) (w : Fin cfg1.W) := (dat1 (V14 m ρ) c).arrAt w cfg1.N

/-- An array of the first region when the region ends. -/
abbrev prep (c : Dev nD) (w : Fin cfg0.W) := (dat0 (V0 m ρ) c).arrAt w cfg0.N

/-- A column of 20000, filled up to 20480 and laid out as 160 rows of 128. -/
def grid {e : EltTy} (x : S20000x1.Idx → Elt F e) (v : S_.Idx → Elt F e) : S160x128.Idx → Elt F e :=
  shapeCast _ (pad S20480 ![0] ![480] ![0] (shapeCast S20000 x shapeCasts_S20000x1_S20000) v pads_S20000_S20480_04800 h_S_) shapeCasts_S20480_S160x128

theorem v20_eq (c : Dev nD) : W16 m ρ c (Proc.devRef .tc main_v20)
    = concatenate S100x4 1 [⟨S100x1, res m ρ c 6⟩, ⟨S100x1, res m ρ c 7⟩, ⟨S100x1, res m ρ c 8⟩, ⟨S100x1, res m ρ c 9⟩] concatenates_S100x1_S100x1_S100x1_S100x1_S100x4_d1 := by
  have h6 : W15 m ρ c (Proc.devRef .tc main_v19_0) = res m ρ c 6 := W15_arr m ρ c 6
  have h7 : W15 m ρ c (Proc.devRef .tc main_v19_1) = res m ρ c 7 := W15_arr m ρ c 7
  have h8 : W15 m ρ c (Proc.devRef .tc main_v19_2) = res m ρ c 8 := W15_arr m ρ c 8
  have h9 : W15 m ρ c (Proc.devRef .tc main_v19_3) = res m ρ c 9 := W15_arr m ρ c 9
  rw [← h6, ← h7, ← h8, ← h9]
  unfold W16
  after_reads_simp
  rfl

theorem v21_eq (c : Dev nD) : W16 m ρ c (Proc.devRef .tc main_v21) = shapeCast S100 (res m ρ c 10) shapeCasts_S100x1_S100 := by
  unfold W16
  after_reads_simp
  simp only [res, ← W15_arr m ρ c 10]
  rfl

theorem v22_eq (c : Dev nD) : W16 m ρ c (Proc.devRef .tc main_v22) = shapeCast S100 (res m ρ c 11) shapeCasts_S100x1_S100 := by
  unfold W16
  after_reads_simp
  simp only [res, ← W15_arr m ρ c 11]
  rfl

theorem sc_eq (c : Dev nD) : V14 m ρ c main_v3 = grid (prep m ρ c 7) (constant S_ .f32 0xD01502F9#32) := by
  after_reads_simp
  rw [prep, ← W1_arr m ρ c 7]
  simp only [TRef.ofBuf_toBuf, TRef.ofBuf, TRef.toBuf, cast_eq, id]
  rfl

theorem x1_eq (c : Dev nD) : V14 m ρ c main_v6 = grid (prep m ρ c 3) (constant S_ .f32 0x00000000#32) := by
  after_reads_simp
  rw [prep, ← W1_arr m ρ c 3]
  simp only [TRef.ofBuf_toBuf, TRef.ofBuf, TRef.toBuf, cast_eq, id]
  rfl

theorem y1_eq (c : Dev nD) : V14 m ρ c main_v9 = grid (prep m ρ c 4) (constant S_ .f32 0x00000000#32) := by
  after_reads_simp
  rw [prep, ← W1_arr m ρ c 4]
  simp only [TRef.ofBuf_toBuf, TRef.ofBuf, TRef.toBuf, cast_eq, id]
  rfl

theorem x2_eq (c : Dev nD) : V14 m ρ c main_v12 = grid (prep m ρ c 5) (constant S_ .f32 0x00000000#32) := by
  after_reads_simp
  rw [prep, ← W1_arr m ρ c 5]
  simp only [TRef.ofBuf_toBuf, TRef.ofBuf, TRef.toBuf, cast_eq, id]
  rfl

theorem y2_eq (c : Dev nD) : V14 m ρ c main_v15 = grid (prep m ρ c 6) (constant S_ .f32 0x00000000#32) := by
  after_reads_simp
  rw [prep, ← W1_arr m ρ c 6]
  simp only [TRef.ofBuf_toBuf, TRef.ofBuf, TRef.toBuf, cast_eq, id]
  rfl

theorem lb_eq (c : Dev nD) : V14 m ρ c main_v18 = grid (prep m ρ c 8) (constantI S_ 32 0#32) := by
  after_reads_simp
  rw [prep, ← W1_arr m ρ c 8]
  simp only [TRef.ofBuf_toBuf, TRef.ofBuf, TRef.toBuf, cast_eq, id]
  rfl

/-- The kernel's run, its results read off the second region's arrays. -/
theorem run : θ_run defs (onTc (τ := τ) (main (F := F))) ⟨m, fun _ => 0, ρ⟩ fun r => ∀ c : Dev nD,
      r.2.mem ((c.tc : Thread nD τ).loc main_v20) = W16 m ρ c (Proc.devRef .tc main_v20)
      ∧ r.2.mem ((c.tc : Thread nD τ).loc main_v21) = W16 m ρ c (Proc.devRef .tc main_v21)
      ∧ r.2.mem ((c.tc : Thread nD τ).loc main_v22) = W16 m ρ c (Proc.devRef .tc main_v22)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c =>
    ⟨h c _ (mem_uc main_v20 (by decide)), h c _ (mem_uc main_v21 (by decide)), h c _ (mem_uc main_v22 (by decide)),
     (h c _ (mem_uc main_arg0 (by decide))).trans (W16_main_arg0 m ρ c),
     (h c _ (mem_uc main_arg1 (by decide))).trans (W16_main_arg1 m ρ c),
     (h c _ (mem_uc main_arg2 (by decide))).trans (W16_main_arg2 m ρ c)⟩) (ends m ρ)

end Cert.KRun

end
-- ==== Proof.RefRun.lean ====
/- The reference's run over the step of `Gen/ReferenceIdeal/Step.lean`: a valuation that holds a state keeps holding
   after one trip with `step` applied, the loop's entry holds `init`, so the results are read off the iterated state. -/
module

public import proofs.«01_k».proof.Proof.Gen.ReferenceIdeal.Run
public import proofs.«01_k».proof.Proof.Gen.ReferenceIdeal.Step
public import Idealize.ShloMosaic.PureOps.Ideal

@[expose] public section

set_option maxRecDepth 16384

noncomputable section

namespace Cert.RefRun

open Idealize.ShloMosaic Idealize.ShloMosaic.TcCoe Idealize.SL.Sem Idealize.ShloMosaic.StableHlo Idealize.ShloMosaic.HloOp
open Cert.ReferenceIdeal Cert.ReferenceIdeal.Gen
open Cert.ReferenceIdeal.Step (State step init)

/-- The valuation has the state at the carried buffers and the trip's number at the counter. -/
structure Holds (V : Valuation τ sig (Elt Ideal)) (s : State Ideal) (j : ℕ) : Prop where
  sc : V (Proc.devRef .tc main_v127_3) = s.main_v127_3
  bx : V (Proc.devRef .tc main_v127_4) = s.main_v127_4
  lb : V (Proc.devRef .tc main_v127_5) = s.main_v127_5
  so : V (Proc.devRef .tc main_v127_6) = s.main_v127_6
  bs : V (Proc.devRef .tc main_v127_0) = s.main_v127_0
  ls : V (Proc.devRef .tc main_v127_1) = s.main_v127_1
  ct : V (Proc.devRef .tc main_v127_2) = constantI S_ 32 (BitVec.ofNat 32 j)

variable {V : Valuation τ sig (Elt Ideal)} {s : State Ideal} {j : ℕ}

theorem best_of (h : Holds V s j) : Value.res_main_while0b_v136 V = Step.b2 (F := Ideal) j s := by
  unfold Value.res_main_while0b_v136
  rw [h.sc]
  rfl

theorem box_of (h : Holds V s j) : Value.res_main_while0b_v149 V = Step.b24 (F := Ideal) j s := by
  unfold Value.res_main_while0b_v149
  rw [best_of h, h.bs]
  rfl

theorem inter_of (h : Holds V s j) : Value.res_main_while0b_v212 V = Step.b95 (F := Ideal) j s := by
  unfold Value.res_main_while0b_v212
  rw [box_of h, h.bs]
  rfl

theorem step_sc (h : Holds V s j) : Value.step_main_v127_3 V = Step.b114 (F := Ideal) j s := by
  unfold Value.step_main_v127_3
  rw [inter_of h, box_of h, best_of h, h.bs, h.sc]
  rfl

theorem step_bx (h : Holds V s j) : Value.step_main_v127_4 V = Step.b124 (F := Ideal) j s := by
  unfold Value.step_main_v127_4
  rw [box_of h, h.bx, h.ct]
  rfl

theorem step_lb (h : Holds V s j) : Value.step_main_v127_5 V = Step.b126 (F := Ideal) j s := by
  unfold Value.step_main_v127_5
  rw [best_of h, h.lb, h.ct, h.ls]
  rfl

theorem step_so (h : Holds V s j) : Value.step_main_v127_6 V = Step.b128 (F := Ideal) j s := by
  unfold Value.step_main_v127_6
  rw [best_of h, h.so, h.ct, h.sc]
  rfl

theorem step_ct (h : Holds V s j) : Value.step_main_v127_2 V = constantI S_ 32 (BitVec.ofNat 32 (j + 1)) := by
  unfold Value.step_main_v127_2
  rw [h.ct]
  funext i
  show BitVec.ofNat 32 j + 1#32 = BitVec.ofNat 32 (j + 1)
  exact (BitVec.ofNat_add j 1).symm

theorem Holds.next (h : Holds V s j) : Holds (Value.STEP V) (step j s) (j + 1) where
  sc := (Value.STEP_main_v127_3 V).trans (step_sc h)
  bx := (Value.STEP_main_v127_4 V).trans (step_bx h)
  lb := (Value.STEP_main_v127_5 V).trans (step_lb h)
  so := (Value.STEP_main_v127_6 V).trans (step_so h)
  bs := (Value.STEP_main_v127_0 V).trans h.bs
  ls := (Value.STEP_main_v127_1 V).trans h.ls
  ct := (Value.STEP_main_v127_2 V).trans (step_ct h)

variable (m : (ℓ : Loc nD τ sig) → Buf (Elt Ideal) ℓ) (c : Dev nD)

/-- The arguments, read from the launch memory. -/
abbrev a0 : (⟨S20000x81, .f32⟩ : BufTy).Contents (Elt Ideal) := m ((c.tc : Thread nD τ).loc main_arg0)
abbrev a1 : (⟨S20000x324, .f32⟩ : BufTy).Contents (Elt Ideal) := m ((c.tc : Thread nD τ).loc main_arg1)
abbrev a2 : (⟨S20000x4, .f32⟩ : BufTy).Contents (Elt Ideal) := m ((c.tc : Thread nD τ).loc main_arg2)

set_option maxRecDepth 100000 in
set_option maxHeartbeats 4000000 in
theorem entry_bx : entryContents Value.preI m c (Proc.devRef .tc main_v127_4) = Step.K_main_v124 (F := Ideal) := by
  simp only [entryContents, afterL_cons, afterL_nil]
  after_reads_simp
  rfl
set_option maxRecDepth 100000 in
set_option maxHeartbeats 4000000 in
theorem entry_lb : entryContents Value.preI m c (Proc.devRef .tc main_v127_5) = Step.K_main_v125 (F := Ideal) := by
  simp only [entryContents, afterL_cons, afterL_nil]
  after_reads_simp
  rfl
set_option maxRecDepth 100000 in
set_option maxHeartbeats 4000000 in
theorem entry_so : entryContents Value.preI m c (Proc.devRef .tc main_v127_6) = Step.K_main_v126 (F := Ideal) := by
  simp only [entryContents, afterL_cons, afterL_nil]
  after_reads_simp
  rfl
set_option maxRecDepth 100000 in
set_option maxHeartbeats 4000000 in
theorem entry_ls : entryContents Value.preI m c (Proc.devRef .tc main_v127_1) = Step.A_main_v109 (F := Ideal) (a0 m c) (a1 m c) (a2 m c) := by
  simp only [entryContents, afterL_cons, afterL_nil]
  after_reads_simp
  rfl

set_option maxRecDepth 100000 in
set_option maxHeartbeats 4000000 in
theorem entry_sc : entryContents Value.preI m c (Proc.devRef .tc main_v127_3) = Step.A_main_v123 (F := Ideal) (a0 m c) (a1 m c) (a2 m c) := by
  simp only [entryContents, afterL_cons, afterL_nil]
  after_reads_simp
  simp only [TRef.ofBuf_toBuf, TRef.ofBuf, TRef.toBuf, cast_eq,
    Step.K_main_cst, Step.K_main_cst_0, Step.K_main_v1, Step.K_main_cst_1, Step.K_main_cst_2, Step.K_main_v16, Step.K_main_cst_3, Step.K_main_v23,
    Step.K_main_cst_4, Step.K_main_v27, Step.K_main_cst_5, Step.K_main_v32, Step.K_main_cst_6, Step.K_main_v36, Step.K_main_cst_7, Step.K_main_v39,
    Step.K_main_cst_8, Step.K_main_v42, Step.K_main_cst_9, Step.K_main_v44, Step.K_main_cst_10, Step.K_main_v47, Step.K_main_cst_11, Step.K_main_v49,
    Step.K_main_cst_12, Step.K_main_v71, Step.K_main_cst_13, Step.K_main_v74, Step.K_main_cst_14, Step.K_main_v77, Step.K_main_cst_15,
    Step.K_main_v80, Step.K_main_cst_16, Step.K_main_v82, Step.K_main_cst_17, Step.K_main_v85, Step.K_main_cst_18, Step.K_main_cst_19,
    Step.K_main_call0_v0, Step.K_main_call0_v1, Step.K_main_call0_v3, Step.K_main_call0_v4, Step.K_main_cst_20, Step.K_main_cst_21,
    Step.K_main_call1_v0, Step.K_main_call1_v1, Step.K_main_call1_v3, Step.K_main_call1_v4, Step.K_main_cst_22, Step.K_main_cst_23,
    Step.K_main_call2_v0, Step.K_main_call2_v1, Step.K_main_call2_v3, Step.K_main_call2_v4, Step.K_main_cst_24, Step.K_main_cst_25,
    Step.K_main_call3_v0, Step.K_main_call3_v1, Step.K_main_call3_v3, Step.K_main_call3_v4, Step.K_main_call4_c, Step.K_main_call4_v0,
    Step.K_main_call4_c_0, Step.K_main_call4_v2, Step.K_main_call4_c_1, Step.K_main_call4_c_2, Step.K_main_call4_v6, Step.K_main_call4_v8,
    Step.K_main_call4_v9, Step.K_main_call4_c_3, Step.K_main_call4_cst, Step.K_main_call4_v14, Step.K_main_call5_c, Step.K_main_call5_v0,
    Step.K_main_call5_c_0, Step.K_main_call5_v2, Step.K_main_call5_c_1, Step.K_main_call5_c_2, Step.K_main_call5_v5, Step.K_main_call5_v7,
    Step.K_main_call5_v8, Step.K_main_call5_c_3, Step.K_main_call5_cst, Step.K_main_call5_v14, Step.K_main_c, Step.K_main_v118, Step.K_main_cst_26,
    Step.K_main_v120, Step.K_main_cst_27, Step.K_main_call6_v0, Step.K_main_call6_v1, Step.K_main_cst_28, Step.K_main_v124, Step.K_main_c_29,
    Step.K_main_v125, Step.K_main_cst_30, Step.K_main_v126, Step.K_main_c_31, Step.A_main_v0, Step.A_main_v2, Step.A_main_v3, Step.A_main_v4,
    Step.A_main_v5, Step.A_main_v6, Step.A_main_v7, Step.A_main_v8, Step.A_main_v9, Step.A_main_v10, Step.A_main_v11, Step.A_main_v12,
    Step.A_main_v13, Step.A_main_v14, Step.A_main_v15, Step.A_main_v17, Step.A_main_v18, Step.A_main_v19, Step.A_main_v20, Step.A_main_v21,
    Step.A_main_v22, Step.A_main_v24, Step.A_main_v25, Step.A_main_v26, Step.A_main_v28, Step.A_main_v29, Step.A_main_v30, Step.A_main_v31,
    Step.A_main_v33, Step.A_main_v34, Step.A_main_v35, Step.A_main_v37, Step.A_main_v38, Step.A_main_v40, Step.A_main_v41, Step.A_main_v43,
    Step.A_main_v45, Step.A_main_v46, Step.A_main_v48, Step.A_main_v50, Step.A_main_v51, Step.A_main_v52, Step.A_main_v53, Step.A_main_v54,
    Step.A_main_v55, Step.A_main_v56, Step.A_main_v57, Step.A_main_v58, Step.A_main_v59, Step.A_main_v60, Step.A_main_v61, Step.A_main_v62,
    Step.A_main_v63, Step.A_main_v64, Step.A_main_v65, Step.A_main_v66, Step.A_main_v67, Step.A_main_v68, Step.A_main_v69, Step.A_main_v70,
    Step.A_main_v72, Step.A_main_v73, Step.A_main_v75, Step.A_main_v76, Step.A_main_v78, Step.A_main_v79, Step.A_main_v81, Step.A_main_v83,
    Step.A_main_v84, Step.A_main_v86, Step.A_main_v87, Step.A_main_v88, Step.A_main_v89, Step.A_main_v90, Step.A_main_v91, Step.A_main_v92,
    Step.A_main_v93, Step.A_main_call0_v2, Step.A_main_v94, Step.A_main_v95, Step.A_main_v96, Step.A_main_call1_v2, Step.A_main_v97, Step.A_main_v98,
    Step.A_main_v99, Step.A_main_call2_v2, Step.A_main_v100, Step.A_main_v101, Step.A_main_v102, Step.A_main_call3_v2, Step.A_main_v103,
    Step.A_main_v104, Step.A_main_v105, Step.A_main_v106, Step.A_main_v107, Step.A_main_v108, Step.A_main_indices, Step.A_main_v109, Step.A_main_v110,
    Step.A_main_call4_v1, Step.A_main_call4_v3, Step.A_main_call4_v4, Step.A_main_call4_v5, Step.A_main_call4_v7, Step.A_main_call4_v10,
    Step.A_main_call4_v11, Step.A_main_call4_v12, Step.A_main_call4_v13, Step.A_main_v111, Step.A_main_v112, Step.A_main_v113, Step.A_main_v114,
    Step.A_main_v115, Step.A_main_call5_v1, Step.A_main_call5_v3, Step.A_main_call5_v4, Step.A_main_call5_v6, Step.A_main_call5_v9,
    Step.A_main_call5_v10, Step.A_main_call5_v11, Step.A_main_call5_v12, Step.A_main_call5_v13, Step.A_main_v116, Step.A_main_v117, Step.A_main_v119,
    Step.A_main_v121, Step.A_main_v122, Step.A_main_v123]
  rfl
set_option maxRecDepth 100000 in
set_option maxHeartbeats 4000000 in
theorem entry_bs : entryContents Value.preI m c (Proc.devRef .tc main_v127_0) = Step.A_main_v117 (F := Ideal) (a0 m c) (a1 m c) (a2 m c) := by
  simp only [entryContents, afterL_cons, afterL_nil]
  after_reads_simp
  simp only [TRef.ofBuf_toBuf, TRef.ofBuf, TRef.toBuf, cast_eq,
    Step.K_main_cst, Step.K_main_cst_0, Step.K_main_v1, Step.K_main_cst_1, Step.K_main_cst_2, Step.K_main_v16, Step.K_main_cst_3, Step.K_main_v23,
    Step.K_main_cst_4, Step.K_main_v27, Step.K_main_cst_5, Step.K_main_v32, Step.K_main_cst_6, Step.K_main_v36, Step.K_main_cst_7, Step.K_main_v39,
    Step.K_main_cst_8, Step.K_main_v42, Step.K_main_cst_9, Step.K_main_v44, Step.K_main_cst_10, Step.K_main_v47, Step.K_main_cst_11, Step.K_main_v49,
    Step.K_main_cst_12, Step.K_main_v71, Step.K_main_cst_13, Step.K_main_v74, Step.K_main_cst_14, Step.K_main_v77, Step.K_main_cst_15,
    Step.K_main_v80, Step.K_main_cst_16, Step.K_main_v82, Step.K_main_cst_17, Step.K_main_v85, Step.K_main_cst_18, Step.K_main_cst_19,
    Step.K_main_call0_v0, Step.K_main_call0_v1, Step.K_main_call0_v3, Step.K_main_call0_v4, Step.K_main_cst_20, Step.K_main_cst_21,
    Step.K_main_call1_v0, Step.K_main_call1_v1, Step.K_main_call1_v3, Step.K_main_call1_v4, Step.K_main_cst_22, Step.K_main_cst_23,
    Step.K_main_call2_v0, Step.K_main_call2_v1, Step.K_main_call2_v3, Step.K_main_call2_v4, Step.K_main_cst_24, Step.K_main_cst_25,
    Step.K_main_call3_v0, Step.K_main_call3_v1, Step.K_main_call3_v3, Step.K_main_call3_v4, Step.K_main_call4_c, Step.K_main_call4_v0,
    Step.K_main_call4_c_0, Step.K_main_call4_v2, Step.K_main_call4_c_1, Step.K_main_call4_c_2, Step.K_main_call4_v6, Step.K_main_call4_v8,
    Step.K_main_call4_v9, Step.K_main_call4_c_3, Step.K_main_call4_cst, Step.K_main_call4_v14, Step.K_main_call5_c, Step.K_main_call5_v0,
    Step.K_main_call5_c_0, Step.K_main_call5_v2, Step.K_main_call5_c_1, Step.K_main_call5_c_2, Step.K_main_call5_v5, Step.K_main_call5_v7,
    Step.K_main_call5_v8, Step.K_main_call5_c_3, Step.K_main_call5_cst, Step.K_main_call5_v14, Step.K_main_c, Step.K_main_v118, Step.K_main_cst_26,
    Step.K_main_v120, Step.K_main_cst_27, Step.K_main_call6_v0, Step.K_main_call6_v1, Step.K_main_cst_28, Step.K_main_v124, Step.K_main_c_29,
    Step.K_main_v125, Step.K_main_cst_30, Step.K_main_v126, Step.K_main_c_31, Step.A_main_v0, Step.A_main_v2, Step.A_main_v3, Step.A_main_v4,
    Step.A_main_v5, Step.A_main_v6, Step.A_main_v7, Step.A_main_v8, Step.A_main_v9, Step.A_main_v10, Step.A_main_v11, Step.A_main_v12,
    Step.A_main_v13, Step.A_main_v14, Step.A_main_v15, Step.A_main_v17, Step.A_main_v18, Step.A_main_v19, Step.A_main_v20, Step.A_main_v21,
    Step.A_main_v22, Step.A_main_v24, Step.A_main_v25, Step.A_main_v26, Step.A_main_v28, Step.A_main_v29, Step.A_main_v30, Step.A_main_v31,
    Step.A_main_v33, Step.A_main_v34, Step.A_main_v35, Step.A_main_v37, Step.A_main_v38, Step.A_main_v40, Step.A_main_v41, Step.A_main_v43,
    Step.A_main_v45, Step.A_main_v46, Step.A_main_v48, Step.A_main_v50, Step.A_main_v51, Step.A_main_v52, Step.A_main_v53, Step.A_main_v54,
    Step.A_main_v55, Step.A_main_v56, Step.A_main_v57, Step.A_main_v58, Step.A_main_v59, Step.A_main_v60, Step.A_main_v61, Step.A_main_v62,
    Step.A_main_v63, Step.A_main_v64, Step.A_main_v65, Step.A_main_v66, Step.A_main_v67, Step.A_main_v68, Step.A_main_v69, Step.A_main_v70,
    Step.A_main_v72, Step.A_main_v73, Step.A_main_v75, Step.A_main_v76, Step.A_main_v78, Step.A_main_v79, Step.A_main_v81, Step.A_main_v83,
    Step.A_main_v84, Step.A_main_v86, Step.A_main_v87, Step.A_main_v88, Step.A_main_v89, Step.A_main_v90, Step.A_main_v91, Step.A_main_v92,
    Step.A_main_v93, Step.A_main_call0_v2, Step.A_main_v94, Step.A_main_v95, Step.A_main_v96, Step.A_main_call1_v2, Step.A_main_v97, Step.A_main_v98,
    Step.A_main_v99, Step.A_main_call2_v2, Step.A_main_v100, Step.A_main_v101, Step.A_main_v102, Step.A_main_call3_v2, Step.A_main_v103,
    Step.A_main_v104, Step.A_main_v105, Step.A_main_v106, Step.A_main_v107, Step.A_main_v108, Step.A_main_indices, Step.A_main_v109, Step.A_main_v110,
    Step.A_main_call4_v1, Step.A_main_call4_v3, Step.A_main_call4_v4, Step.A_main_call4_v5, Step.A_main_call4_v7, Step.A_main_call4_v10,
    Step.A_main_call4_v11, Step.A_main_call4_v12, Step.A_main_call4_v13, Step.A_main_v111, Step.A_main_v112, Step.A_main_v113, Step.A_main_v114,
    Step.A_main_v115, Step.A_main_call5_v1, Step.A_main_call5_v3, Step.A_main_call5_v4, Step.A_main_call5_v6, Step.A_main_call5_v9,
    Step.A_main_call5_v10, Step.A_main_call5_v11, Step.A_main_call5_v12, Step.A_main_call5_v13, Step.A_main_v116, Step.A_main_v117, Step.A_main_v119,
    Step.A_main_v121, Step.A_main_v122, Step.A_main_v123]
  rfl

set_option maxRecDepth 100000 in
theorem entry_holds : Holds (entryContents Value.preI m c) (init (a0 m c) (a1 m c) (a2 m c)) 0 where
  sc := entry_sc m c
  bx := entry_bx m c
  lb := entry_lb m c
  so := entry_so m c
  bs := entry_bs m c
  ls := entry_ls m c
  ct := Value.ctr_entry m c

/-- The state after `k` trips. -/
def stateAt (x0 : (⟨S20000x81, .f32⟩ : BufTy).Contents (Elt Ideal)) (x1 : (⟨S20000x324, .f32⟩ : BufTy).Contents (Elt Ideal))
    (x2 : (⟨S20000x4, .f32⟩ : BufTy).Contents (Elt Ideal)) : ℕ → State Ideal
  | 0 => init x0 x1 x2
  | k + 1 => step k (stateAt x0 x1 x2 k)

theorem holds_at (k : ℕ) : Holds (Value.STEP^[k] (entryContents Value.preI m c)) (stateAt (a0 m c) (a1 m c) (a2 m c) k) k := by
  induction k with
  | zero => exact entry_holds m c
  | succ k ih => rw [Function.iterate_succ_apply']; exact ih.next

variable (ρ : Dev nD → PrngReg)

/-- The reference's run, its results read off the state after the last trip. -/
theorem run : θ_run (defs (F := Ideal)) (onTc (τ := τ) (main (F := Ideal))) ⟨m, fun _ => 0, ρ⟩ fun r => ∀ c : Dev nD,
      r.2.mem ((c.tc : Thread nD τ).loc main_v134) = Step.R_main_v134 (stateAt (a0 m c) (a1 m c) (a2 m c) 100)
      ∧ r.2.mem ((c.tc : Thread nD τ).loc main_v130) = Step.R_main_v130 (stateAt (a0 m c) (a1 m c) (a2 m c) 100)
      ∧ r.2.mem ((c.tc : Thread nD τ).loc main_v135) = Step.R_main_v135 (stateAt (a0 m c) (a1 m c) (a2 m c) 100)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun r h c => by
    obtain ⟨h1, h2, h3, h4⟩ := h c
    have H := holds_at m c 100
    refine ⟨h1.trans ?_, h2.trans ?_, h3.trans ?_, h4⟩
    · unfold Value.out_main_v134 Step.R_main_v134; rw [H.bx, H.so]
    · unfold Value.out_main_v130 Step.R_main_v130; rw [H.so]
    · unfold Value.out_main_v135 Step.R_main_v135; rw [H.lb, H.so]) (Value.run (F := Ideal) m ρ)

end Cert.RefRun

end
-- ==== Proof.KLoop.lean ====
/-
  The second kernel's loop as plain recursions: the scores after `k` trips, and the rows the trips store into the six outputs.
-/
module

public import Idealize.ShloMosaic.PureOps.Ideal
public import Idealize.ShloMosaic.Lib.WritesUnit
public import Idealize.ShloMosaic.Lib.WholeRead
public import proofs.«01_k».proof.Proof.KRun

@[expose] public section

set_option maxRecDepth 16384
noncomputable section

namespace Cert.KLoop

open Idealize.ShloMosaic Idealize.ShloMosaic.TcCoe Idealize.ShloMosaic.Tactic Idealize.ShloMosaic.StableHlo
open Idealize.SL Idealize.SL.RA Idealize.SL.BI
open Cert.KernelIdeal Cert.KernelIdeal.Gen

variable {F : FTy → Type} [FloatOps F]

section Trip
variable (v0 v2 v4 v6 : Vec F S160x128 .f32) (v8 : Vec F S160x128 .i32) (acc : FVec F S160x128 .f32)

/-- The picked box's four coordinates and label, the picked entry's score, and whether that score is above zero. -/
def px1 : F .f32 := k1_pay14 (k1_pay1 v0) k1_pay7 acc
def py1 : F .f32 := k1_pay15 (k1_pay2 v2) k1_pay7 acc
def px2 : F .f32 := k1_pay16 (k1_pay3 v4) k1_pay7 acc
def py2 : F .f32 := k1_pay17 (k1_pay4 v6) k1_pay7 acc
def plab : BitVec 32 := extractAt ![0, 0, 0] (k1_pay18 (k1_pay5 v8) k1_pay7 acc) inpos_S1x1x1_p0_0_0
def pos : BitVec 1 := Scalar.cmpf .ogt (k1_pay12 acc) (Scalar.ofBits (F := F) .f32 0x00000000#32)

/-- The scores one trip leaves. -/
def next : FVec F S160x128 .f32 :=
  k1_pay20 (k1_pay1 v0) (k1_pay2 v2) (k1_pay3 v4) (k1_pay4 v6) (k1_pay6 v0 v2 v4 v6) acc (k1_pay13 k1_pay7 acc)
    (px1 v0 acc) (py1 v2 acc) (px2 v4 acc) (py2 v6 acc) (Scalar.subf (px2 v4 acc) (px1 v0 acc)) (Scalar.ofBits .f32 0x3F800000#32)

/-- The six entries one trip stores. -/
def row1 : FVec F S1x1 .f32 := k1_pay21 (k1_pay12 acc) (px1 v0 acc)
def row2 : FVec F S1x1 .f32 := k1_pay22 (k1_pay12 acc) (py1 v2 acc)
def row3 : FVec F S1x1 .f32 := k1_pay23 (k1_pay12 acc) (px2 v4 acc)
def row4 : FVec F S1x1 .f32 := k1_pay9 (py2 v6 acc) (pos acc)
def row5 : FVec F S1x1 .f32 := k1_pay10 (k1_pay12 acc) (pos acc)
def row6 : IVec S1x1 32 := k1_pay11 (plab v8 acc) (pos acc)

/-- The scores after `k` trips from `a`. -/
def accAt (a : FVec F S160x128 .f32) : ℕ → FVec F S160x128 .f32
  | 0 => a
  | k + 1 => next v0 v2 v4 v6 (accAt a k)

end Trip

section Pieces
variable (𝒱 : Variants) (c : Dev nD) (bd : Option 𝒱.V)
  (arg0 : Memref sig .tc .vmem S160x128 .f32) (harg0 : arg0.IsWhole) (arg1 : Memref sig .tc .vmem S160x128 .f32) (harg1 : arg1.IsWhole) (arg2 : Memref sig .tc .vmem S160x128 .f32) (harg2 : arg2.IsWhole) (arg3 : Memref sig .tc .vmem S160x128 .f32) (harg3 : arg3.IsWhole) (arg4 : Memref sig .tc .vmem S160x128 .f32) (harg4 : arg4.IsWhole) (arg5 : Memref sig .tc .vmem S160x128 .i32) (harg5 : arg5.IsWhole) (arg6 : Memref sig .tc .vmem S100x1 .f32) (harg6 : arg6.IsWhole) (arg7 : Memref sig .tc .vmem S100x1 .f32) (harg7 : arg7.IsWhole) (arg8 : Memref sig .tc .vmem S100x1 .f32) (harg8 : arg8.IsWhole) (arg9 : Memref sig .tc .vmem S100x1 .f32) (harg9 : arg9.IsWhole) (arg10 : Memref sig .tc .vmem S100x1 .f32) (harg10 : arg10.IsWhole) (arg11 : Memref sig .tc .vmem S100x1 .i32) (harg11 : arg11.IsWhole)
  (v0 v2 v4 v6 : Vec F S160x128 .f32) (v8 : Vec F S160x128 .i32) (k : Fin k1_t1_loop.trips) (acc a : FVec F S160x128 .f32)

theorem trip_next : (trip_k1_t1 𝒱 c bd arg0 harg0 arg1 harg1 arg2 harg2 arg3 harg3 arg4 harg4 arg5 harg5 arg6 harg6 arg7 harg7 arg8 harg8 arg9 harg9 arg10 harg10 arg11 harg11 v0 v2 v4 v6 v8 k).1 acc = next v0 v2 v4 v6 acc := by
  unfold trip_k1_t1
  rfl

theorem trip_row1 : (trip_k1_t1 𝒱 c bd arg0 harg0 arg1 harg1 arg2 harg2 arg3 harg3 arg4 harg4 arg5 harg5 arg6 harg6 arg7 harg7 arg8 harg8 arg9 harg9 arg10 harg10 arg11 harg11 v0 v2 v4 v6 v8 k).2.1 acc
    = [⟨Rect.unit (s := S100x1) (k1_off1 k) S1x1.size (k1_off1_inb k), row1 v0 acc⟩] := by
  unfold trip_k1_t1
  rfl

theorem trip_row2 : (trip_k1_t1 𝒱 c bd arg0 harg0 arg1 harg1 arg2 harg2 arg3 harg3 arg4 harg4 arg5 harg5 arg6 harg6 arg7 harg7 arg8 harg8 arg9 harg9 arg10 harg10 arg11 harg11 v0 v2 v4 v6 v8 k).2.2.1 acc
    = [⟨Rect.unit (s := S100x1) (k1_off1 k) S1x1.size (k1_off1_inb k), row2 v2 acc⟩] := by
  unfold trip_k1_t1
  rfl

theorem trip_row3 : (trip_k1_t1 𝒱 c bd arg0 harg0 arg1 harg1 arg2 harg2 arg3 harg3 arg4 harg4 arg5 harg5 arg6 harg6 arg7 harg7 arg8 harg8 arg9 harg9 arg10 harg10 arg11 harg11 v0 v2 v4 v6 v8 k).2.2.2.1 acc
    = [⟨Rect.unit (s := S100x1) (k1_off1 k) S1x1.size (k1_off1_inb k), row3 v4 acc⟩] := by
  unfold trip_k1_t1
  rfl

theorem trip_row4 : (trip_k1_t1 𝒱 c bd arg0 harg0 arg1 harg1 arg2 harg2 arg3 harg3 arg4 harg4 arg5 harg5 arg6 harg6 arg7 harg7 arg8 harg8 arg9 harg9 arg10 harg10 arg11 harg11 v0 v2 v4 v6 v8 k).2.2.2.2.1 acc
    = [⟨Rect.unit (s := S100x1) (k1_off1 k) S1x1.size (k1_off1_inb k), row4 v6 acc⟩] := by
  unfold trip_k1_t1
  rfl

theorem trip_row5 : (trip_k1_t1 𝒱 c bd arg0 harg0 arg1 harg1 arg2 harg2 arg3 harg3 arg4 harg4 arg5 harg5 arg6 harg6 arg7 harg7 arg8 harg8 arg9 harg9 arg10 harg10 arg11 harg11 v0 v2 v4 v6 v8 k).2.2.2.2.2.1 acc
    = [⟨Rect.unit (s := S100x1) (k1_off1 k) S1x1.size (k1_off1_inb k), row5  acc⟩] := by
  unfold trip_k1_t1
  rfl

theorem trip_row6 : (trip_k1_t1 𝒱 c bd arg0 harg0 arg1 harg1 arg2 harg2 arg3 harg3 arg4 harg4 arg5 harg5 arg6 harg6 arg7 harg7 arg8 harg8 arg9 harg9 arg10 harg10 arg11 harg11 v0 v2 v4 v6 v8 k).2.2.2.2.2.2.1 acc
    = [⟨Rect.unit (s := S100x1) (k1_off1 k) S1x1.size (k1_off1_inb k), row6 v8 acc⟩] := by
  unfold trip_k1_t1
  rfl

theorem st_eq (n : ℕ) (hn : n ≤ k1_t1_loop.trips) :
    st_k1_t1 𝒱 c bd arg0 harg0 arg1 harg1 arg2 harg2 arg3 harg3 arg4 harg4 arg5 harg5 arg6 harg6 arg7 harg7 arg8 harg8 arg9 harg9 arg10 harg10 arg11 harg11 v0 v2 v4 v6 v8 a n
      = (accAt v0 v2 v4 v6 a n,
         View.tilePieces (s := S100x1) S1x1.size k1_off1 k1_off1_inb (fun j => row1 v0 (accAt v0 v2 v4 v6 a j)) n hn,
         View.tilePieces (s := S100x1) S1x1.size k1_off1 k1_off1_inb (fun j => row2 v2 (accAt v0 v2 v4 v6 a j)) n hn,
         View.tilePieces (s := S100x1) S1x1.size k1_off1 k1_off1_inb (fun j => row3 v4 (accAt v0 v2 v4 v6 a j)) n hn,
         View.tilePieces (s := S100x1) S1x1.size k1_off1 k1_off1_inb (fun j => row4 v6 (accAt v0 v2 v4 v6 a j)) n hn,
         View.tilePieces (s := S100x1) S1x1.size k1_off1 k1_off1_inb (fun j => row5  (accAt v0 v2 v4 v6 a j)) n hn,
         View.tilePieces (s := S100x1) S1x1.size k1_off1 k1_off1_inb (fun j => row6 v8 (accAt v0 v2 v4 v6 a j)) n hn) := by
  induction n with
  | zero => rfl
  | succ n ih =>
    rw [st_k1_t1_succ (k := ⟨n, hn⟩)]
    dsimp only [tripR_k1_t1, tripL_k1_t1]
    have hs := ih (Nat.le_of_succ_le hn)
    rw [hs]
    exact congrArg₂ Prod.mk (trip_next 𝒱 c bd arg0 harg0 arg1 harg1 arg2 harg2 arg3 harg3 arg4 harg4 arg5 harg5 arg6 harg6 arg7 harg7 arg8 harg8 arg9 harg9 arg10 harg10 arg11 harg11 v0 v2 v4 v6 v8 ⟨n, hn⟩ _)
      (congrArg₂ Prod.mk (congrArg₂ List.append (trip_row1 𝒱 c bd arg0 harg0 arg1 harg1 arg2 harg2 arg3 harg3 arg4 harg4 arg5 harg5 arg6 harg6 arg7 harg7 arg8 harg8 arg9 harg9 arg10 harg10 arg11 harg11 v0 v2 v4 v6 v8 ⟨n, hn⟩ _) rfl)
      (congrArg₂ Prod.mk (congrArg₂ List.append (trip_row2 𝒱 c bd arg0 harg0 arg1 harg1 arg2 harg2 arg3 harg3 arg4 harg4 arg5 harg5 arg6 harg6 arg7 harg7 arg8 harg8 arg9 harg9 arg10 harg10 arg11 harg11 v0 v2 v4 v6 v8 ⟨n, hn⟩ _) rfl)
      (congrArg₂ Prod.mk (congrArg₂ List.append (trip_row3 𝒱 c bd arg0 harg0 arg1 harg1 arg2 harg2 arg3 harg3 arg4 harg4 arg5 harg5 arg6 harg6 arg7 harg7 arg8 harg8 arg9 harg9 arg10 harg10 arg11 harg11 v0 v2 v4 v6 v8 ⟨n, hn⟩ _) rfl)
      (congrArg₂ Prod.mk (congrArg₂ List.append (trip_row4 𝒱 c bd arg0 harg0 arg1 harg1 arg2 harg2 arg3 harg3 arg4 harg4 arg5 harg5 arg6 harg6 arg7 harg7 arg8 harg8 arg9 harg9 arg10 harg10 arg11 harg11 v0 v2 v4 v6 v8 ⟨n, hn⟩ _) rfl)
      (congrArg₂ Prod.mk (congrArg₂ List.append (trip_row5 𝒱 c bd arg0 harg0 arg1 harg1 arg2 harg2 arg3 harg3 arg4 harg4 arg5 harg5 arg6 harg6 arg7 harg7 arg8 harg8 arg9 harg9 arg10 harg10 arg11 harg11 v0 v2 v4 v6 v8 ⟨n, hn⟩ _) rfl)
        (congrArg₂ List.append (trip_row6 𝒱 c bd arg0 harg0 arg1 harg1 arg2 harg2 arg3 harg3 arg4 harg4 arg5 harg5 arg6 harg6 arg7 harg7 arg8 harg8 arg9 harg9 arg10 harg10 arg11 harg11 v0 v2 v4 v6 v8 ⟨n, hn⟩ _) rfl))))))

end Pieces

end Cert.KLoop

end
-- ==== Proof.Top.lean ====
/-
  The first place a greatest value stands at, and the one-entry `top_k` that finds it.
-/
module

public import Idealize.ShloMosaic.PureOps.Ideal
public import Idealize.ShloMosaic.PureOps.Ideal.Laws
public import Idealize.ShloMosaic.Lib.SortFacts
public import Idealize.ShloMosaic.Lib.ValueIdx

@[expose] public section

set_option maxRecDepth 16384
noncomputable section

namespace Cert.Top

open Idealize.ShloMosaic Idealize.ShloMosaic.ValueIdx

/-- `b` is the first place at which `v` is greatest. -/
def IsTop {n : ℕ} (v : Fin n → EReal) (b : Fin n) : Prop := (∀ i, v i ≤ v b) ∧ ∀ i, i < b → v i < v b

theorem exists_top {n : ℕ} (hn : 0 < n) (v : Fin n → EReal) : ∃ b, IsTop v b := by
  haveI : Nonempty (Fin n) := ⟨⟨0, hn⟩⟩
  obtain ⟨m, hm⟩ := Finite.exists_max v
  have hne : (Finset.univ.filter fun i => v m ≤ v i).Nonempty := ⟨m, by simp⟩
  refine ⟨(Finset.univ.filter fun i => v m ≤ v i).min' hne, fun i => ?_, fun i hi => ?_⟩
  · have h := Finset.min'_mem _ hne
    rw [Finset.mem_filter] at h
    exact (hm i).trans h.2
  · by_contra hc
    have h := Finset.min'_mem _ hne
    rw [Finset.mem_filter] at h
    have : i ∈ Finset.univ.filter fun i => v m ≤ v i := by
      rw [Finset.mem_filter]
      exact ⟨Finset.mem_univ _, h.2.trans (not_lt.mp hc)⟩
    exact absurd (Finset.min'_le _ _ this) (not_le.mpr hi)

theorem IsTop.unique {n : ℕ} {v : Fin n → EReal} {b c : Fin n} (hb : IsTop v b) (hc : IsTop v c) : b = c := by
  rcases lt_trichotomy b c with h | h | h
  · exact absurd (hc.2 b h) (not_lt.mpr (hb.1 c))
  · exact h
  · exact absurd (hb.2 c h) (not_lt.mpr (hc.1 b))

/-- A stable sort, greater first, puts the first greatest element of a list in front. -/
theorem head_stableSort {ι : Type} (v : ι → EReal) (B : ι → ι → Bool) (hB : ∀ a c, B a c = true ↔ v c < v a)
    (b : ι) (l₂ : List ι) (h₂ : ∀ x ∈ l₂, v x ≤ v b) :
    ∀ l₁ : List ι, (∀ x ∈ l₁, v x < v b) → ∃ t, stableSort B (l₁ ++ b :: l₂) = b :: t
  | [], _ => by
    show ∃ t, insertBefore B b (stableSort B l₂) = b :: t
    cases hs : stableSort B l₂ with
    | nil => exact ⟨[], rfl⟩
    | cons c t =>
      have hc : c ∈ l₂ := (perm_stableSort B l₂).mem_iff.mp (by rw [hs]; exact List.mem_cons_self)
      have : ¬ B c b = true := by rw [hB]; exact not_lt.mpr (h₂ c hc)
      exact ⟨c :: t, by unfold insertBefore; rw [if_neg this]⟩
  | a :: l₁, h₁ => by
    obtain ⟨t, ht⟩ := head_stableSort v B hB b l₂ h₂ l₁ fun x hx => h₁ x (List.mem_cons_of_mem _ hx)
    refine ⟨insertBefore B a t, ?_⟩
    show insertBefore B a (stableSort B (l₁ ++ b :: l₂)) = _
    rw [ht]
    have : B b a = true := by rw [hB]; exact h₁ a List.mem_cons_self
    conv_lhs => unfold insertBefore
    rw [if_pos this]

theorem sortedFrom_top {n : ℕ} (v : Fin n → EReal) (B : Fin n → Fin n → Bool) (hB : ∀ a c, B a c = true ↔ v c < v a)
    (b z : Fin n) (hz : z.val = 0) (h : IsTop v b) : sortedFrom B z = b := by
  obtain ⟨l₁, l₂, hl⟩ := List.append_of_mem (List.mem_finRange b)
  have hlt : (l₁ ++ b :: l₂).Pairwise (· < ·) := hl ▸ List.pairwise_lt_finRange n
  have h₁ : ∀ x ∈ l₁, v x < v b := fun x hx =>
    h.2 x ((List.pairwise_append.mp hlt).2.2 x hx b List.mem_cons_self)
  obtain ⟨t, ht⟩ := head_stableSort v B hB b l₂ (fun x _ => h.1 x) l₁ h₁
  have hp : sortPositions n B = b :: t := by unfold sortPositions; rw [hl, ht]
  unfold sortedFrom
  simp only [List.get_eq_getElem, Fin.val_cast, hp, hz, List.getElem_cons_zero]

/-- The index a one-entry `top_k` gives at `j` is the first greatest place of the line through `i`, the start of `j`'s line. -/
theorem topK_top {s t : Shape} (d : ℕ) (hd : d < s.rank) (x : s.Idx → EReal) (h : s.Slices (fun _ => 0) t) (j : t.Idx) (i : s.Idx)
    (hi : ∀ a, (i a).val = (j (a.cast h.1.symm)).val)
    (b : Fin (s.size ⟨d, hd⟩)) (h0 : (i ⟨d, hd⟩).val = 0) (hb : IsTop (fun k => x (i.along ⟨d, hd⟩ k)) b) :
    (Host.topK t d (FloatOps.cmpfTotal (F := Ideal) (φ := .f32) .gt) x h).2 j = BitVec.ofNat 32 b.val := by
  have hj : (fun a => ⟨0 + (j (a.cast h.1.symm)).val, Nat.lt_of_lt_of_le (Nat.add_lt_add_left (j _).isLt _) (h.2 a)⟩ : s.Idx) = i := by
    funext a
    exact Fin.ext (by show 0 + _ = _; rw [Nat.zero_add, hi a])
  unfold Host.topK extractStridedSlice
  dsimp only
  rw [hj]
  unfold Host.sort2
  rw [dif_pos hd]
  dsimp only
  rw [dif_pos hd]
  unfold iotaInDim
  rw [sortedFrom_top (fun k => x (i.along ⟨d, hd⟩ k)) _ (fun a c => by
    simp only [Ideal.cmpfTotal_def, Ideal.cmp, CmpDirection.ordered, beq_iff_eq]
    by_cases hac : x (i.along ⟨d, hd⟩ c) < x (i.along ⟨d, hd⟩ a)
    · simp [hac]
    · simp [hac]) b _ h0 hb]
  unfold Shape.Idx.along
  rw [Function.update_self]

end Cert.Top
-- ==== Proof.Nms.lean ====
/-
  Greedy suppression over 20000 scored boxes, in plain terms: what a round picks, what it clears, and what it reports.
-/
module

public import proofs.«01_k».proof.Proof.Top

@[expose] public section

set_option maxRecDepth 16384
noncomputable section

namespace Cert.Nms

open Idealize.ShloMosaic Cert.Top

/-- The score a cleared box has. -/
def low : EReal := Ideal.ofBits .f32 0xD01502F9#32
/-- The overlap above which a box is cleared. -/
def half : EReal := Ideal.ofBits .f32 0x3F000000#32

/-- The area two boxes share. -/
def inter (a b c d x y z w : EReal) : EReal := max (min c z - max a x + 1) 0 * max (min d w - max b y + 1) 0

/-- The shared area over the area the two boxes cover. -/
def iou (a b c d x y z w : EReal) : EReal :=
  Ideal.div (inter a b c d x y z w) ((c - a + 1) * (d - b + 1) + (z - x + 1) * (w - y + 1) - inter a b c d x y z w)

variable (x1 y1 x2 y2 : Fin 20000 → EReal)

/-- The scores a round leaves that picks box `b`. -/
def clear (sc : Fin 20000 → EReal) (b : Fin 20000) (n : Fin 20000) : EReal :=
  if half < iou (x1 b) (y1 b) (x2 b) (y2 b) (x1 n) (y1 n) (x2 n) (y2 n) ∨ n = b then low else sc n

/-- The box a round picks. -/
def best (sc : Fin 20000 → EReal) : Fin 20000 := (exists_top (by decide) sc).choose

theorem best_top (sc : Fin 20000 → EReal) : IsTop sc (best sc) := (exists_top (by decide) sc).choose_spec

/-- The scores after `k` rounds. -/
def scores (sc : Fin 20000 → EReal) : ℕ → Fin 20000 → EReal
  | 0 => sc
  | k + 1 => clear x1 y1 x2 y2 (scores sc k) (best (scores sc k))

theorem low_le_clear (sc : Fin 20000 → EReal) (h : ∀ n, low ≤ sc n) (b n : Fin 20000) : low ≤ clear x1 y1 x2 y2 sc b n := by
  unfold clear
  split
  · exact le_rfl
  · exact h n

theorem low_le_scores (sc : Fin 20000 → EReal) (h : ∀ n, low ≤ sc n) : ∀ k n, low ≤ scores x1 y1 x2 y2 sc k n
  | 0, n => h n
  | k + 1, n => low_le_clear x1 y1 x2 y2 _ (low_le_scores sc h k) _ n

/-- What a round reports: `a`, if the score it picked is above zero. -/
def gate (s a : EReal) : EReal := if 0 < s then a else 0
def gateW (s : EReal) (a : BitVec 32) : BitVec 32 := if 0 < s then a else 0#32

/-- Coordinate `q` of box `n`. -/
def coord (q : Fin 4) (n : Fin 20000) : EReal :=
  match q with
  | 0 => x1 n
  | 1 => y1 n
  | 2 => x2 n
  | 3 => y2 n

end Cert.Nms
-- ==== Proof.KTrip.lean ====
/-
  One trip of the second kernel's loop, read entry by entry: it picks the first greatest score, reads that box by masked maxima,
  and clears what overlaps it.
-/
module

public import proofs.«01_k».proof.Proof.KLoop
public import proofs.«01_k».proof.Proof.Nms
public import Idealize.ShloMosaic.PureOps.Ideal
public import Idealize.ShloMosaic.PureOps.Ideal.Laws
public import Idealize.ShloMosaic.Lib.WordArith
public import Idealize.ShloMosaic.Lib.Pointwise

@[expose] public section

set_option maxRecDepth 16384
noncomputable section

namespace Cert.KTrip

open Idealize.ShloMosaic Idealize.ShloMosaic.TcCoe Idealize.ShloMosaic.Tactic
open Cert.KernelIdeal Cert.KernelIdeal.Gen Cert.KLoop Cert.Top Cert.Nms

/-- A fold that keeps one of its operands, the one of least key, is the entry of least key. -/
theorem fold_least {ι β : Type} [DecidableEq ι] (op : β → β → β) [Std.Commutative op] [Std.Associative op] (key : β → ℤ)
    (hinj : Function.Injective key) (hop : ∀ a b, key (op a b) = min (key a) (key b)) (f : ι → β) (z : β) (M : β)
    (s : Finset ι) (hz : key M ≤ key z) (hle : ∀ x ∈ s, key M ≤ key (f x)) (x₀ : ι) (hx : x₀ ∈ s) (h₀ : f x₀ = M) :
    s.fold op z f = M := by
  apply hinj
  have hall : ∀ s : Finset ι, (∀ x ∈ s, key M ≤ key (f x)) → key M ≤ key (s.fold op z f) ∧ ∀ x ∈ s, key (s.fold op z f) ≤ key (f x) := by
    intro s
    induction s using Finset.induction_on with
    | empty => intro _; exact ⟨by rw [Finset.fold_empty]; exact hz, fun x hx => absurd hx (Finset.notMem_empty x)⟩
    | insert a s ha ih =>
      intro h
      obtain ⟨h1, h2⟩ := ih fun x hx => h x (Finset.mem_insert_of_mem hx)
      rw [Finset.fold_insert ha, hop]
      refine ⟨le_min (h a (Finset.mem_insert_self a s)) h1, fun x hx => ?_⟩
      rcases Finset.mem_insert.mp hx with rfl | hx
      · exact min_le_left _ _
      · exact (min_le_right _ _).trans (h2 x hx)
  obtain ⟨h1, h2⟩ := hall s hle
  exact le_antisymm (h₀ ▸ h2 x₀ hx) h1

theorem fold_minsi {ι : Type} [Fintype ι] [DecidableEq ι] (f : ι → BitVec 32) (z M : BitVec 32) (hz : M.toInt ≤ z.toInt)
    (hle : ∀ x, M.toInt ≤ (f x).toInt) (x₀ : ι) (h₀ : f x₀ = M) : Finset.univ.fold IntOp.minsi z f = M :=
  fold_least IntOp.minsi BitVec.toInt (fun _ _ => BitVec.eq_of_toInt_eq)
    (fun a b => by
      simp only [IntOp.minsi, BitVec.slt, decide_eq_true_eq]
      split <;> omega) f z M _ hz (fun x _ => hle x) x₀ (Finset.mem_univ _) h₀

theorem fold_maxsi {ι : Type} [Fintype ι] [DecidableEq ι] (f : ι → BitVec 32) (z M : BitVec 32) (hz : z.toInt ≤ M.toInt)
    (hle : ∀ x, (f x).toInt ≤ M.toInt) (x₀ : ι) (h₀ : f x₀ = M) : Finset.univ.fold IntOp.maxsi z f = M :=
  fold_least IntOp.maxsi (fun a => -a.toInt) (fun _ _ h => BitVec.eq_of_toInt_eq (neg_injective h))
    (fun a b => by
      simp only [IntOp.maxsi, BitVec.slt, decide_eq_true_eq]
      split <;> omega) f z M _ (by omega) (fun x _ => by have := hle x; show -M.toInt ≤ -(f x).toInt; omega) x₀ (Finset.mem_univ _) h₀

theorem fold_max {ι : Type} [Fintype ι] (f : ι → EReal) (z M : EReal) (hz : z ≤ M) (hle : ∀ x, f x ≤ M) (x₀ : ι) (h₀ : f x₀ = M) :
    Finset.univ.fold max z f = M :=
  le_antisymm (Finset.fold_max_le _ |>.mpr ⟨hz, fun x _ => hle x⟩) (Finset.le_fold_max _ |>.mpr (Or.inr ⟨x₀, Finset.mem_univ _, h₀.ge⟩))

/-- A list of 20000 laid out over the grid's rows, `fill` after its end. -/
def spread {α : Type} (x : Fin 20000 → α) (fill : α) (r : Fin 160) (c : Fin 128) : α :=
  if h : r.val * 128 + c.val < 20000 then x ⟨r.val * 128 + c.val, h⟩ else fill

/-- The row and column of place `b`. -/
def rowOf (b : Fin 20000) : Fin 160 := ⟨b.val / 128, by have := b.isLt; omega⟩
def colOf (b : Fin 20000) : Fin 128 := ⟨b.val % 128, by omega⟩

theorem spread_at {α : Type} (x : Fin 20000 → α) (fill : α) (b : Fin 20000) : spread x fill (rowOf b) (colOf b) = x b := by
  have h : b.val / 128 * 128 + b.val % 128 = b.val := by omega
  unfold spread rowOf colOf
  rw [dif_pos (by show b.val / 128 * 128 + b.val % 128 < 20000; rw [h]; exact b.isLt)]
  exact congrArg x (Fin.ext h)

theorem neg_inf : Ideal.ofBits .f32 0xFF800000#32 = ⊥ := by
  simp [Ideal.ofBits, Ideal.ieee]

theorem word (r : Fin 160) (c : Fin 128) : IntOp.addi (IntOp.muli (BitVec.ofNat 32 r.val) 128#32) (BitVec.ofNat 32 c.val)
    = BitVec.ofNat 32 (r.val * 128 + c.val) := by
  show BitVec.ofNat 32 r.val * BitVec.ofNat 32 128 + BitVec.ofNat 32 c.val = _
  rw [← BitVec.ofNat_mul, ← BitVec.ofNat_add]

theorem place_eq (r : Fin 160) (c : Fin 128) : k1_pay7 (ix2 r c) = BitVec.ofNat 32 (r.val * 128 + c.val) := by
  pointwise [k1_pay7]
  exact word r c

theorem select_or {α : Type} (p q : Prop) [Decidable p] [Decidable q] [Decidable (p ∨ q)] (a b : α) :
    Scalar.select (IntOp.ori (BitVec.ofBool (decide p)) (BitVec.ofBool (decide q))) a b = if p ∨ q then a else b := by
  by_cases hp : p <;> by_cases hq : q <;> simp [hp, hq, IntOp.ori, Scalar.select]

theorem toInt_word (n : ℕ) (h : n < 2 ^ 31) : (BitVec.ofNat 32 n).toInt = n := by
  exact WordArith.toInt_ofNat_small n h

section
variable (acc : FVec Ideal S160x128 .f32) (sc : Fin 20000 → EReal) (b : Fin 20000)
  (hacc : ∀ r c, acc (ix2 r c) = spread sc low r c) (hlow : ∀ n, low ≤ sc n) (hb : IsTop sc b)
include hacc hlow hb

theorem max_eq : k1_pay12 (F := Ideal) acc = sc b := by
  pointwise [k1_pay12]
  refine fold_max _ _ _ (by rw [neg_inf]; exact bot_le) (fun x => ?_) (rowOf b, colOf b) ?_
  · rw [hacc]
    unfold spread
    split
    · exact hb.1 _
    · exact hlow b
  · show acc (ix2 (rowOf b) (colOf b)) = _
    rw [hacc, spread_at]

theorem least_eq : Finset.univ.fold IntOp.minsi (2147483647#32)
      (fun x : Fin 160 × Fin 128 =>
        if acc (ix2 x.1 x.2) = k1_pay12 acc then
          BitVec.ofNat 32 (x.1.val * 128 + x.2.val)
        else 1073741824#32) = BitVec.ofNat 32 b.val := by
  have hbl := b.isLt
  refine fold_minsi _ _ _ ?_ (fun x => ?_) (rowOf b, colOf b) ?_
  · rw [toInt_word _ (by omega)]
    have : (2147483647#32).toInt = 2147483647 := by decide
    omega
  · rw [max_eq acc sc b hacc hlow hb, toInt_word b.val (by omega)]
    have h1 := x.1.isLt
    have h2 := x.2.isLt
    split
    · rename_i h
      rw [toInt_word _ (by omega)]
      rw [hacc] at h
      unfold spread at h
      split at h
      · rename_i hlt
        by_contra hc
        exact absurd h (ne_of_lt (hb.2 ⟨_, hlt⟩ (by show x.1.val * 128 + x.2.val < b.val; omega)))
      · omega
    · have : (1073741824#32).toInt = 1073741824 := by decide
      omega
  · show (if acc (ix2 (rowOf b) (colOf b)) = k1_pay12 acc then _ else _) = _
    rw [if_pos (by rw [hacc, spread_at, max_eq acc sc b hacc hlow hb])]
    congr 1
    show b.val / 128 * 128 + b.val % 128 = b.val
    omega

set_option maxRecDepth 200000 in
theorem first_eq (r : Fin 160) (c : Fin 128) :
    k1_pay13 k1_pay7 acc (ix2 r c) = BitVec.ofBool (decide (r.val * 128 + c.val = b.val)) := by
  have hr := r.isLt
  have hc := c.isLt
  have hbl := b.isLt
  have hM := least_eq acc sc b hacc hlow hb
  pointwise [k1_pay13, place_eq]
  rw [hM]
  refine congrArg BitVec.ofBool (Bool.eq_iff_iff.mpr ?_)
  show (BitVec.ofNat 32 (r.val * 128 + c.val) == BitVec.ofNat 32 b.val) = true ↔ _
  simp only [beq_iff_eq, decide_eq_true_eq]
  constructor
  · intro h
    have := congrArg BitVec.toNat h
    simp only [BitVec.toNat_ofNat] at this
    omega
  · intro h
    rw [h]

/-- A masked maximum of a list's entries is the entry at the picked place. -/
theorem pick_eq (x : Fin 20000 → EReal) (fill : EReal) (v : FVec Ideal S160x128 .f32) (hv : ∀ r c, v (ix2 r c) = spread x fill r c)
    (hx : Ideal.ofBits .f32 0xF149F2CA#32 ≤ x b) : k1_pay14 (F := Ideal) (k1_pay1 v) k1_pay7 acc = x b := by
  have hf := first_eq acc sc b hacc hlow hb
  have hbl := b.isLt
  pointwise [k1_pay14, k1_pay1]
  refine fold_max _ _ _ (by rw [neg_inf]; exact bot_le) (fun y => ?_) (rowOf b, colOf b) ?_
  · rw [hf, hv]
    by_cases h : y.1.val * 128 + y.2.val = b.val
    · rw [decide_eq_true h]
      show spread x fill y.1 y.2 ≤ x b
      unfold spread
      rw [dif_pos (by omega)]
      exact le_of_eq (congrArg x (Fin.ext h))
    · rw [decide_eq_false h]
      exact hx
  · rw [hf, hv, spread_at, decide_eq_true (by show b.val / 128 * 128 + b.val % 128 = b.val; omega)]
    rfl

theorem lab_eq (x : Fin 20000 → BitVec 32) (fill : BitVec 32) (v : IVec S160x128 32) (hv : ∀ r c, v (ix2 r c) = spread x fill r c)
    (hx : 0 ≤ (x b).toInt) : plab (F := Ideal) v acc = x b := by
  have hf := first_eq acc sc b hacc hlow hb
  have hbl := b.isLt
  unfold plab
  pointwise [k1_pay18, k1_pay5]
  refine fold_maxsi _ _ _ ?_ (fun y => ?_) (rowOf b, colOf b) ?_
  · have : (2147483648#32).toInt = -2147483648 := by decide
    omega
  · rw [hf, hv]
    by_cases h : y.1.val * 128 + y.2.val = b.val
    · rw [decide_eq_true h]
      show (spread x fill y.1 y.2).toInt ≤ (x b).toInt
      unfold spread
      rw [dif_pos (by omega)]
      exact le_of_eq (congrArg (fun n => (x n).toInt) (Fin.ext h))
    · rw [decide_eq_false h]
      exact hx
  · rw [hf, hv, spread_at, decide_eq_true (by show b.val / 128 * 128 + b.val % 128 = b.val; omega)]
    rfl

variable (x1 y1 x2 y2 : Fin 20000 → EReal) (f1 f2 f3 f4 : EReal) (v1 v2 v3 v4 : FVec Ideal S160x128 .f32)
  (h1 : ∀ r c, v1 (ix2 r c) = spread x1 f1 r c) (h2 : ∀ r c, v2 (ix2 r c) = spread y1 f2 r c)
  (h3 : ∀ r c, v3 (ix2 r c) = spread x2 f3 r c) (h4 : ∀ r c, v4 (ix2 r c) = spread y2 f4 r c)
  (p1 : Ideal.ofBits .f32 0xF149F2CA#32 ≤ x1 b) (p2 : Ideal.ofBits .f32 0xF149F2CA#32 ≤ y1 b)
  (p3 : Ideal.ofBits .f32 0xF149F2CA#32 ≤ x2 b) (p4 : Ideal.ofBits .f32 0xF149F2CA#32 ≤ y2 b)
include h1 h2 h3 h4 p1 p2 p3 p4

theorem next_eq (r : Fin 160) (c : Fin 128) : next (F := Ideal) v1 v2 v3 v4 acc (ix2 r c) = spread (clear x1 y1 x2 y2 sc b) low r c := by
  have hf := first_eq acc sc b hacc hlow hb
  have e1 : px1 v1 acc = x1 b := pick_eq acc sc b hacc hlow hb x1 f1 v1 h1 p1
  have e2 : py1 v2 acc = y1 b := pick_eq acc sc b hacc hlow hb y1 f2 v2 h2 p2
  have e3 : px2 v3 acc = x2 b := pick_eq acc sc b hacc hlow hb x2 f3 v3 h3 p3
  have e4 : py2 v4 acc = y2 b := pick_eq acc sc b hacc hlow hb y2 f4 v4 h4 p4
  unfold next
  rw [e1, e2, e3, e4]
  pointwise [k1_pay20, k1_pay6, k1_pay1, k1_pay2, k1_pay3, k1_pay4]
  rw [hf, hacc, h1, h2, h3, h4]
  unfold spread
  split
  · rename_i hlt
    unfold clear iou inter half low
    simp only [Fin.ext_iff]
    exact select_or _ _ _ _
  · rename_i hge
    show Scalar.select _ low low = low
    exact ite_self _
end

end Cert.KTrip
-- ==== Proof.Row.lean ====
/-
  One proposal in plain terms: its class, the score of that class, and the box decoded for it.
-/
module

public import proofs.«01_k».proof.Proof.Nms
public import Idealize.ShloMosaic.PureOps.Ideal
public import Idealize.ShloMosaic.PureOps.Ideal.Laws
public import Idealize.ShloMosaic.Lib.TotalOrder
public import Idealize.ShloMosaic.Lib.Pointwise

@[expose] public section

set_option maxRecDepth 16384
noncomputable section

namespace Cert.Row

open Idealize.ShloMosaic Idealize.ShloMosaic.TotalOrder Cert.Top Cert.Nms

def ten : EReal := Ideal.ofBits .f32 0x41200000#32
def five : EReal := Ideal.ofBits .f32 0x40A00000#32
/-- The greatest logarithm of a change of scale. -/
def clip : EReal := Ideal.ofBits .f32 0x40845349#32
def wide : EReal := Ideal.ofBits .f32 0x44A68000#32
def tall : EReal := Ideal.ofBits .f32 0x4447C000#32
/-- The least score kept. -/
def least : EReal := Ideal.ofBits .f32 0x3D4CCCCD#32

/-- The class of greatest logit, the first of several. -/
def top (lg : Fin 81 → EReal) : Fin 81 := (exists_top (by decide) lg).choose

theorem top_spec (lg : Fin 81 → EReal) : IsTop lg (top lg) := (exists_top (by decide) lg).choose_spec

/-- The sum that a softmax divides by. -/
def total (lg : Fin 81 → EReal) : EReal := ∑ k, Ideal.exp (lg k - lg (top lg))

/-- The score of the class, if it is not the background and the score is large enough. -/
def score (lg : Fin 81 → EReal) : EReal :=
  if 1 ≤ (top lg).val ∧ least < Ideal.div 1 (total lg) then Ideal.div 1 (total lg) else low

/-- Regression output `q` of class `t`. -/
def entry (br : Fin 324 → EReal) (t : Fin 81) (q : Fin 4) : EReal := br ⟨4 * t.val + q.val, by have := t.isLt; have := q.isLt; omega⟩

def size (a c : EReal) : EReal := c - a + 1
def centre (d a s : EReal) : EReal := Ideal.div d ten * s + (a + half * s)
def span (d s : EReal) : EReal := Ideal.exp (min (Ideal.div d five) clip) * s
def lo (lim c s : EReal) : EReal := min lim (max 0 (c - half * s))
def hi (lim c s : EReal) : EReal := min lim (max 0 (c + half * s - 1))

/-- The decoded box of class `t`. -/
def box (br : Fin 324 → EReal) (pr : Fin 4 → EReal) (t : Fin 81) (q : Fin 4) : EReal :=
  match q with
  | 0 => lo wide (centre (entry br t 0) (pr 0) (size (pr 0) (pr 2))) (span (entry br t 2) (size (pr 0) (pr 2)))
  | 1 => lo tall (centre (entry br t 1) (pr 1) (size (pr 1) (pr 3))) (span (entry br t 3) (size (pr 1) (pr 3)))
  | 2 => hi wide (centre (entry br t 0) (pr 0) (size (pr 0) (pr 2))) (span (entry br t 2) (size (pr 0) (pr 2)))
  | 3 => hi tall (centre (entry br t 1) (pr 1) (size (pr 1) (pr 3))) (span (entry br t 3) (size (pr 1) (pr 3)))

theorem zero_le_wide : 0 ≤ wide := by
  have : Ideal.ofBits .f32 0x00000000#32 < Ideal.ofBits .f32 0x44A68000#32 := (f32_lt_iff (by decide) (by decide) (by decide)).mp (by decide)
  rw [Ideal.ofBits_zero] at this
  exact this.le

theorem zero_le_tall : 0 ≤ tall := by
  have : Ideal.ofBits .f32 0x00000000#32 < Ideal.ofBits .f32 0x4447C000#32 := (f32_lt_iff (by decide) (by decide) (by decide)).mp (by decide)
  rw [Ideal.ofBits_zero] at this
  exact this.le

theorem box_nonneg (br : Fin 324 → EReal) (pr : Fin 4 → EReal) (t : Fin 81) (q : Fin 4) : 0 ≤ box br pr t q := by
  match q with
  | 0 => exact le_min zero_le_wide (le_max_left _ _)
  | 1 => exact le_min zero_le_tall (le_max_left _ _)
  | 2 => exact le_min zero_le_wide (le_max_left _ _)
  | 3 => exact le_min zero_le_tall (le_max_left _ _)

theorem filler_le_zero : Ideal.ofBits .f32 0xF149F2CA#32 ≤ 0 := by
  have : Ideal.ofBits .f32 0xF149F2CA#32 < Ideal.ofBits .f32 0x00000000#32 := (f32_lt_iff (by decide) (by decide) (by decide)).mp (by decide)
  rw [Ideal.ofBits_zero] at this
  exact this.le

theorem low_le_score (lg : Fin 81 → EReal) : low ≤ score lg := by
  have h : low < least := (f32_lt_iff (by decide) (by decide) (by decide)).mp (by decide)
  unfold score
  split
  · rename_i e
    exact h.le.trans e.2.le
  · exact le_rfl

end Cert.Row
-- ==== Proof.KRow.lean ====
/-
  The kernel's first region, one row of a block at a time.
-/
module

public import proofs.«01_k».proof.Proof.Gen.KernelIdeal.Frame
public import proofs.«01_k».proof.Proof.KTrip
public import proofs.«01_k».proof.Proof.Row
public import Idealize.ShloMosaic.PureOps.Ideal
public import Idealize.ShloMosaic.PureOps.Ideal.Laws
public import Idealize.ShloMosaic.Lib.WordArith
public import Idealize.ShloMosaic.Lib.Pointwise

@[expose] public section

set_option maxRecDepth 16384
noncomputable section

namespace Cert.KRow

open Idealize.ShloMosaic Idealize.ShloMosaic.TcCoe Idealize.ShloMosaic.Tactic
open Cert.KernelIdeal Cert.KernelIdeal.Gen Cert.Top Cert.Nms Cert.Row Cert.KTrip

variable (l : Vec Ideal S1000x81 .f32) (b : Vec Ideal S1000x324 .f32) (p : Vec Ideal S1000x4 .f32) (r : Fin 1000)

theorem fold_at : Finset.univ.fold max (Ideal.ofBits .f32 0xFF800000#32) (fun k : Fin 81 => l (ix2 r k))
    = l (ix2 r (top fun k => l (ix2 r k))) :=
  fold_max _ _ _ (by rw [neg_inf]; exact bot_le) (top_spec fun k => l (ix2 r k)).1 _ rfl

theorem score_at : k0_pay3 l (ix2 r (0 : Fin 1)) = Ideal.div 1 (total fun k => l (ix2 r k)) := by
  have h := fold_at l r
  pointwise [k0_pay3, k0_pay2]
  rw [h]
  rfl

theorem label_at : k0_pay4 l (ix2 r (0 : Fin 1)) = BitVec.ofNat 32 (top fun k => l (ix2 r k)).val := by
  have h := fold_at l r
  have ht := top_spec fun k => l (ix2 r k)
  pointwise [k0_pay4, k0_pay2]
  rw [h]
  generalize (top fun k => l (ix2 r k)) = t at ht ⊢
  have hl := t.isLt
  refine fold_minsi _ _ _ ?_ (fun x => ?_) t (if_pos le_rfl)
  · rw [toInt_word _ (by omega)]
    have : (2147483647#32).toInt = 2147483647 := by decide
    omega
  · rw [toInt_word _ (by omega)]
    have hx := x.isLt
    split
    · rename_i hge
      rw [toInt_word _ (by omega)]
      by_contra hc
      exact absurd hge (not_le.mpr (ht.2 x (by show x.val < t.val; omega)))
    · have : (1073741824#32).toInt = 1073741824 := by decide
      omega

theorem word_at (q : Fin 4) (t : Fin 81) :
    IntOp.addi (IntOp.muli (BitVec.ofNat 32 t.val) 4#32) (BitVec.ofNat 32 q.val) = BitVec.ofNat 32 (4 * t.val + q.val) := by
  show BitVec.ofNat 32 t.val * BitVec.ofNat 32 4 + BitVec.ofNat 32 q.val = _
  rw [← BitVec.ofNat_mul, ← BitVec.ofNat_add, Nat.mul_comm]

/-- A sum over the lanes that all but one are masked out of. -/
theorem masked (f : Fin 324 → EReal) (t : Fin 81) (q : Fin 4) :
    (∑ x : Fin 324, Scalar.select (IntOp.cmpi .eq (BitVec.ofNat 32 x.val) (BitVec.ofNat 32 (4 * t.val + q.val))) (f x) 0) = entry f t q := by
  have ht := t.isLt
  have hq := q.isLt
  have key : ∀ x : Fin 324, IntOp.cmpi .eq (BitVec.ofNat 32 x.val) (BitVec.ofNat 32 (4 * t.val + q.val))
      = BitVec.ofBool (decide (x.val = 4 * t.val + q.val)) := by
    intro x
    have hx := x.isLt
    refine congrArg BitVec.ofBool (Bool.eq_iff_iff.mpr ?_)
    show (BitVec.ofNat 32 x.val == BitVec.ofNat 32 (4 * t.val + q.val)) = true ↔ _
    simp only [beq_iff_eq, decide_eq_true_eq]
    constructor
    · intro h
      have := congrArg BitVec.toNat h
      simp only [BitVec.toNat_ofNat] at this
      omega
    · intro h
      rw [h]
  rw [Finset.sum_eq_single (⟨4 * t.val + q.val, by omega⟩ : Fin 324)]
  · rw [key, decide_eq_true rfl]
    rfl
  · intro x _ hx
    rw [key, decide_eq_false (fun h => hx (Fin.ext h))]
    rfl
  · intro h
    exact absurd (Finset.mem_univ _) h

theorem x_at : k0_pay14 (k0_pay7 p) (k0_pay9 p) (k0_pay12 l b) (ix2 r (0 : Fin 1))
    = centre (entry (fun k => b (ix2 r k)) (top fun k => l (ix2 r k)) 0) (p (ix2 r 0)) (size (p (ix2 r 0)) (p (ix2 r 2))) := by
  have h := label_at l r
  have hm := masked (fun k => b (ix2 r k)) (top fun k => l (ix2 r k)) 0
  rw [← word_at, show IntOp.addi (IntOp.muli (BitVec.ofNat 32 (top fun k => l (ix2 r k)).val) 4#32) (BitVec.ofNat 32 (0 : Fin 4).val)
    = IntOp.muli (BitVec.ofNat 32 (top fun k => l (ix2 r k)).val) 4#32 from BitVec.add_zero _] at hm
  pointwise [k0_pay14, k0_pay12, k0_pay11, k0_pay7, k0_pay5, k0_pay9]
  rw [h, hm]
  rfl

theorem y_at : k0_pay15 (k0_pay8 p) (k0_pay10 p) b (iota .tc S1000x324 32 [1] iota_S1000x324_d1_w32) (k0_pay11 l) (ix2 r (0 : Fin 1))
    = centre (entry (fun k => b (ix2 r k)) (top fun k => l (ix2 r k)) 1) (p (ix2 r 1)) (size (p (ix2 r 1)) (p (ix2 r 3))) := by
  have h := label_at l r
  have hm := masked (fun k => b (ix2 r k)) (top fun k => l (ix2 r k)) 1
  rw [← word_at] at hm
  pointwise [k0_pay15, k0_pay8, k0_pay10, k0_pay11, k0_pay6]
  rw [h]
  exact congrArg (fun s => Ideal.div s ten * _ + _) hm

theorem w_at : k0_pay16 (k0_pay7 p) b (iota .tc S1000x324 32 [1] iota_S1000x324_d1_w32) (k0_pay11 l) (ix2 r (0 : Fin 1))
    = span (entry (fun k => b (ix2 r k)) (top fun k => l (ix2 r k)) 2) (size (p (ix2 r 0)) (p (ix2 r 2))) := by
  have h := label_at l r
  have hm := masked (fun k => b (ix2 r k)) (top fun k => l (ix2 r k)) 2
  rw [← word_at] at hm
  pointwise [k0_pay16, k0_pay7, k0_pay5, k0_pay11]
  rw [h]
  exact congrArg (fun s => Ideal.exp (min (Ideal.div s five) clip) * _) hm

theorem h_at : k0_pay17 (k0_pay8 p) (k0_pay13 b (iota .tc S1000x324 32 [1] iota_S1000x324_d1_w32) (k0_pay11 l)) (ix2 r (0 : Fin 1))
    = span (entry (fun k => b (ix2 r k)) (top fun k => l (ix2 r k)) 3) (size (p (ix2 r 1)) (p (ix2 r 3))) := by
  have h := label_at l r
  have hm := masked (fun k => b (ix2 r k)) (top fun k => l (ix2 r k)) 3
  rw [← word_at] at hm
  pointwise [k0_pay17, k0_pay8, k0_pay6, k0_pay13, k0_pay11]
  rw [h]
  exact congrArg (fun s => Ideal.exp (min (Ideal.div s five) clip) * _) hm

theorem corner1 : k0_pay18 (k0_pay14 (k0_pay7 p) (k0_pay9 p) (k0_pay12 l b))
      (k0_pay16 (k0_pay7 p) b (iota .tc S1000x324 32 [1] iota_S1000x324_d1_w32) (k0_pay11 l)) (ix2 r (0 : Fin 1))
    = box (fun k => b (ix2 r k)) (fun k => p (ix2 r k)) (top fun k => l (ix2 r k)) 0 := by
  have h1 := x_at l b p r
  have h2 := w_at l b p r
  pointwise [k0_pay18]
  rw [h1, h2]
  rfl

theorem corner2 : k0_pay19 (k0_pay8 p) (k0_pay13 b (iota .tc S1000x324 32 [1] iota_S1000x324_d1_w32) (k0_pay11 l))
      (k0_pay15 (k0_pay8 p) (k0_pay10 p) b (iota .tc S1000x324 32 [1] iota_S1000x324_d1_w32) (k0_pay11 l)) (ix2 r (0 : Fin 1))
    = box (fun k => b (ix2 r k)) (fun k => p (ix2 r k)) (top fun k => l (ix2 r k)) 1 := by
  have h1 := y_at l b p r
  have h2 := h_at l b p r
  pointwise [k0_pay19]
  rw [h1, h2]
  rfl

theorem corner3 : k0_pay20 (k0_pay14 (k0_pay7 p) (k0_pay9 p) (k0_pay12 l b))
      (k0_pay16 (k0_pay7 p) b (iota .tc S1000x324 32 [1] iota_S1000x324_d1_w32) (k0_pay11 l)) (ix2 r (0 : Fin 1))
    = box (fun k => b (ix2 r k)) (fun k => p (ix2 r k)) (top fun k => l (ix2 r k)) 2 := by
  have h1 := x_at l b p r
  have h2 := w_at l b p r
  pointwise [k0_pay20]
  rw [h1, h2]
  rfl

theorem corner4 : k0_pay21 (k0_pay8 p) (k0_pay13 b (iota .tc S1000x324 32 [1] iota_S1000x324_d1_w32) (k0_pay11 l))
      (k0_pay15 (k0_pay8 p) (k0_pay10 p) b (iota .tc S1000x324 32 [1] iota_S1000x324_d1_w32) (k0_pay11 l)) (ix2 r (0 : Fin 1))
    = box (fun k => b (ix2 r k)) (fun k => p (ix2 r k)) (top fun k => l (ix2 r k)) 3 := by
  have h1 := y_at l b p r
  have h2 := h_at l b p r
  pointwise [k0_pay21]
  rw [h1, h2]
  rfl

theorem at_least_one (t : Fin 81) : IntOp.cmpi .sge (BitVec.ofNat 32 t.val) 1#32 = BitVec.ofBool (decide (1 ≤ t.val)) := by
  have ht := t.isLt
  refine congrArg BitVec.ofBool (Bool.eq_iff_iff.mpr ?_)
  show (1#32).sle (BitVec.ofNat 32 t.val) = true ↔ _
  rw [BitVec.sle, toInt_word t.val (by omega)]
  have : (1#32).toInt = 1 := by decide
  simp only [decide_eq_true_eq]
  omega

theorem select_and {α : Type} (p q : Prop) [Decidable p] [Decidable q] [Decidable (p ∧ q)] (a b : α) :
    Scalar.select (IntOp.andi (BitVec.ofBool (decide p)) (BitVec.ofBool (decide q))) a b = if p ∧ q then a else b := by
  by_cases hp : p <;> by_cases hq : q <;> simp [hp, hq, IntOp.andi, Scalar.select]

theorem kept_at : k0_pay1 (k0_pay3 l) (k0_pay22 (k0_pay3 l) (k0_pay4 l)) (ix2 r (0 : Fin 1)) = score fun k => l (ix2 r k) := by
  have h1 := score_at l r
  have h2 := label_at l r
  pointwise [k0_pay1, k0_pay22]
  rw [h1, h2, at_least_one, select_and]
  rfl

end Cert.KRow
-- ==== Proof.KRes.lean ====
/-
  The second kernel's six result arrays: entry `j` of each is what trip `j` stores there.
-/
module

public import proofs.«01_k».proof.Proof.KLoop
public import Idealize.ShloMosaic.Lib.Pipeline.ValueKit
public import Idealize.ShloMosaic.Lib.VecWindow

@[expose] public section

set_option maxRecDepth 16384
noncomputable section

namespace Cert.KRes

open Idealize.ShloMosaic Idealize.ShloMosaic.TcCoe Idealize.ShloMosaic.Tactic Idealize.ShloMosaic.StableHlo
open Idealize.SL Idealize.SL.RA Idealize.SL.BI
open Cert.KernelIdeal Cert.KernelIdeal.Gen Cert.KLoop Cert.KRun

variable {F : FTy → Type} [FloatOps F]

/-- The region's one point. -/
def pt : Fin cfg1.N := ⟨0, by decide⟩

/-- The one index of a one-by-one array. -/
def o11 : S1x1.Idx := fun a => ⟨0, by revert a; decide⟩

theorem trips_eq : k1_t1_loop.trips = 100 := by decide +kernel

theorem off_row (k : Fin k1_t1_loop.trips) : k1_off1 k = ![k.val, 0] := by
  revert k
  decide +kernel

/-- Row `y` of the stored tiles is the entry trip `y` stores. -/
theorem read_rows {e : EltTy} {sp : Space} (v : View sig .tc sp S100x1 e) (f : v.ty.Contents (Elt F)) (P : ℕ → S1x1.Idx → Elt F e)
    (h : k1_t1_loop.trips ≤ k1_t1_loop.trips) (y : S100x1.Idx) :
    v.read (Elt F) (v.writes (Elt F) f (View.tilePieces (s := S100x1) S1x1.size k1_off1 k1_off1_inb (fun j => P j) k1_t1_loop.trips h)) y
      = P (y 0).val o11 := by
  have hy : (y 0).val < k1_t1_loop.trips := by rw [trips_eq]; exact (y 0).isLt
  refine View.read_tilePieces v f S1x1.size k1_off1 k1_off1_inb (fun j => P j) _ h y ⟨(y 0).val, hy⟩ hy o11 ?_ 0 ?_
  · intro a
    rw [off_row]
    match a with
    | ⟨0, _⟩ => rfl
    | ⟨1, _⟩ => have : (y 1).val < 1 := (y 1).isLt; show (y 1).val = 0 + 0; omega
  · intro i hi
    rw [off_row]
    have : i.val ≠ (y 0).val := fun h => hi (Fin.ext h)
    show (y 0).val < i.val ∨ i.val + 1 ≤ (y 0).val
    omega

variable (V : (c : Dev nD) → (b : Ref sig .tc) → Buf (Elt F) ((c : Thread nD τ).loc b)) (c : Dev nD)

theorem idx : ∀ t : Fin cfg1.N, win1_0.index t = ![0, 0] ∧ win1_1.index t = ![0, 0] ∧ win1_2.index t = ![0, 0] ∧ win1_3.index t = ![0, 0]
    ∧ win1_4.index t = ![0, 0] ∧ win1_5.index t = ![0, 0] :=
  (by decide +kernel : ∀ t : Fin grid1.N, _)

theorem blk0 : iblk1 V c 0 pt = V c main_v3 := by
  blk_ext! [iblk1, idx pt]
theorem blk1 : iblk1 V c 1 pt = V c main_v6 := by
  blk_ext! [iblk1, idx pt]
theorem blk2 : iblk1 V c 2 pt = V c main_v9 := by
  blk_ext! [iblk1, idx pt]
theorem blk3 : iblk1 V c 3 pt = V c main_v12 := by
  blk_ext! [iblk1, idx pt]
theorem blk4 : iblk1 V c 4 pt = V c main_v15 := by
  blk_ext! [iblk1, idx pt]
theorem blk5 : iblk1 V c 5 pt = V c main_v18 := by
  blk_ext! [iblk1, idx pt]

/-- The scores before trip `k`, over the arrays the region finds. -/
def scAt (k : ℕ) : FVec F S160x128 .f32 :=
  accAt (V c main_v6) (V c main_v9) (V c main_v12) (V c main_v15) (k1_pay8 (V c main_v3)) k

section Pieces
variable (arg0 : Memref sig .tc .vmem S160x128 .f32) (harg0 : arg0.IsWhole) (arg1 : Memref sig .tc .vmem S160x128 .f32) (harg1 : arg1.IsWhole) (arg2 : Memref sig .tc .vmem S160x128 .f32) (harg2 : arg2.IsWhole) (arg3 : Memref sig .tc .vmem S160x128 .f32) (harg3 : arg3.IsWhole) (arg4 : Memref sig .tc .vmem S160x128 .f32) (harg4 : arg4.IsWhole) (arg5 : Memref sig .tc .vmem S160x128 .i32) (harg5 : arg5.IsWhole) (arg6 : Memref sig .tc .vmem S100x1 .f32) (harg6 : arg6.IsWhole) (arg7 : Memref sig .tc .vmem S100x1 .f32) (harg7 : arg7.IsWhole) (arg8 : Memref sig .tc .vmem S100x1 .f32) (harg8 : arg8.IsWhole) (arg9 : Memref sig .tc .vmem S100x1 .f32) (harg9 : arg9.IsWhole) (arg10 : Memref sig .tc .vmem S100x1 .f32) (harg10 : arg10.IsWhole) (arg11 : Memref sig .tc .vmem S100x1 .i32) (harg11 : arg11.IsWhole)
  (x0 x1 x2 x3 x4 : Vec F S160x128 .f32) (x5 : Vec F S160x128 .i32)

theorem load {sp : Space} {e : EltTy} (m : Memref sig .tc sp S160x128 e) (h : m.IsWhole) (x : Vec F S160x128 e) :
    View.readAt (Elt F) m.view (Rect.unit (s := S160x128) ![0, 0] ![160, 128] inb_S160x128_S160x128_0_0).toLoadRect (h.unread x) = x :=
  (View.readAt_full (s := S160x128) m.view (h.unread x) inb_S160x128_S160x128_0_0).trans (h.read_unread x)

theorem pieces6 : (kernelRun1_A c arg0 harg0 arg1 harg1 arg2 harg2 arg3 harg3 arg4 harg4 arg5 harg5 arg6 harg6 arg7 harg7 arg8 harg8 arg9 harg9 arg10 harg10 arg11 harg11 x0 x1 x2 x3 x4 x5).1
    = View.tilePieces (s := S100x1) S1x1.size k1_off1 k1_off1_inb (fun j => row1 x1 (accAt x1 x2 x3 x4 (k1_pay8 x0) j)) k1_t1_loop.trips le_rfl := by
  unfold kernelRun1_A
  dsimp only
  rw [load, load, load, load, load, load]
  exact congrArg (fun s => s.2.1) (st_eq Variants.none c none arg0 harg0 arg1 harg1 arg2 harg2 arg3 harg3 arg4 harg4 arg5 harg5 arg6 harg6 arg7 harg7 arg8 harg8 arg9 harg9 arg10 harg10 arg11 harg11 x1 x2 x3 x4 x5 (k1_pay8 x0) k1_t1_loop.trips le_rfl)

theorem pieces7 : (kernelRun1_A c arg0 harg0 arg1 harg1 arg2 harg2 arg3 harg3 arg4 harg4 arg5 harg5 arg6 harg6 arg7 harg7 arg8 harg8 arg9 harg9 arg10 harg10 arg11 harg11 x0 x1 x2 x3 x4 x5).2.1
    = View.tilePieces (s := S100x1) S1x1.size k1_off1 k1_off1_inb (fun j => row2 x2 (accAt x1 x2 x3 x4 (k1_pay8 x0) j)) k1_t1_loop.trips le_rfl := by
  unfold kernelRun1_A
  dsimp only
  rw [load, load, load, load, load, load]
  exact congrArg (fun s => s.2.2.1) (st_eq Variants.none c none arg0 harg0 arg1 harg1 arg2 harg2 arg3 harg3 arg4 harg4 arg5 harg5 arg6 harg6 arg7 harg7 arg8 harg8 arg9 harg9 arg10 harg10 arg11 harg11 x1 x2 x3 x4 x5 (k1_pay8 x0) k1_t1_loop.trips le_rfl)

theorem pieces8 : (kernelRun1_A c arg0 harg0 arg1 harg1 arg2 harg2 arg3 harg3 arg4 harg4 arg5 harg5 arg6 harg6 arg7 harg7 arg8 harg8 arg9 harg9 arg10 harg10 arg11 harg11 x0 x1 x2 x3 x4 x5).2.2.1
    = View.tilePieces (s := S100x1) S1x1.size k1_off1 k1_off1_inb (fun j => row3 x3 (accAt x1 x2 x3 x4 (k1_pay8 x0) j)) k1_t1_loop.trips le_rfl := by
  unfold kernelRun1_A
  dsimp only
  rw [load, load, load, load, load, load]
  exact congrArg (fun s => s.2.2.2.1) (st_eq Variants.none c none arg0 harg0 arg1 harg1 arg2 harg2 arg3 harg3 arg4 harg4 arg5 harg5 arg6 harg6 arg7 harg7 arg8 harg8 arg9 harg9 arg10 harg10 arg11 harg11 x1 x2 x3 x4 x5 (k1_pay8 x0) k1_t1_loop.trips le_rfl)

theorem pieces9 : (kernelRun1_A c arg0 harg0 arg1 harg1 arg2 harg2 arg3 harg3 arg4 harg4 arg5 harg5 arg6 harg6 arg7 harg7 arg8 harg8 arg9 harg9 arg10 harg10 arg11 harg11 x0 x1 x2 x3 x4 x5).2.2.2.1
    = View.tilePieces (s := S100x1) S1x1.size k1_off1 k1_off1_inb (fun j => row4 x4 (accAt x1 x2 x3 x4 (k1_pay8 x0) j)) k1_t1_loop.trips le_rfl := by
  unfold kernelRun1_A
  dsimp only
  rw [load, load, load, load, load, load]
  exact congrArg (fun s => s.2.2.2.2.1) (st_eq Variants.none c none arg0 harg0 arg1 harg1 arg2 harg2 arg3 harg3 arg4 harg4 arg5 harg5 arg6 harg6 arg7 harg7 arg8 harg8 arg9 harg9 arg10 harg10 arg11 harg11 x1 x2 x3 x4 x5 (k1_pay8 x0) k1_t1_loop.trips le_rfl)

theorem pieces10 : (kernelRun1_A c arg0 harg0 arg1 harg1 arg2 harg2 arg3 harg3 arg4 harg4 arg5 harg5 arg6 harg6 arg7 harg7 arg8 harg8 arg9 harg9 arg10 harg10 arg11 harg11 x0 x1 x2 x3 x4 x5).2.2.2.2.1
    = View.tilePieces (s := S100x1) S1x1.size k1_off1 k1_off1_inb (fun j => row5  (accAt x1 x2 x3 x4 (k1_pay8 x0) j)) k1_t1_loop.trips le_rfl := by
  unfold kernelRun1_A
  dsimp only
  rw [load, load, load, load, load, load]
  exact congrArg (fun s => s.2.2.2.2.2.1) (st_eq Variants.none c none arg0 harg0 arg1 harg1 arg2 harg2 arg3 harg3 arg4 harg4 arg5 harg5 arg6 harg6 arg7 harg7 arg8 harg8 arg9 harg9 arg10 harg10 arg11 harg11 x1 x2 x3 x4 x5 (k1_pay8 x0) k1_t1_loop.trips le_rfl)

theorem pieces11 : (kernelRun1_A c arg0 harg0 arg1 harg1 arg2 harg2 arg3 harg3 arg4 harg4 arg5 harg5 arg6 harg6 arg7 harg7 arg8 harg8 arg9 harg9 arg10 harg10 arg11 harg11 x0 x1 x2 x3 x4 x5).2.2.2.2.2.1
    = View.tilePieces (s := S100x1) S1x1.size k1_off1 k1_off1_inb (fun j => row6 x5 (accAt x1 x2 x3 x4 (k1_pay8 x0) j)) k1_t1_loop.trips le_rfl := by
  unfold kernelRun1_A
  dsimp only
  rw [load, load, load, load, load, load]
  exact congrArg (fun s => s.2.2.2.2.2.2) (st_eq Variants.none c none arg0 harg0 arg1 harg1 arg2 harg2 arg3 harg3 arg4 harg4 arg5 harg5 arg6 harg6 arg7 harg7 arg8 harg8 arg9 harg9 arg10 harg10 arg11 harg11 x1 x2 x3 x4 x5 (k1_pay8 x0) k1_t1_loop.trips le_rfl)

end Pieces

theorem res6 : (dat1 V c).arrAt 6 cfg1.N = fun y : S100x1.Idx => row1 (V c main_v6) (scAt V c (y 0).val) o11 := by
  refine (dat1 V c).arrAt_eq_of_after_last 6 pt (by decide +kernel) _ fun j => ?_
  blk_simp
  rw [after1_6]
  unfold outsAt1 out1_A_6
  dsimp only
  rw [pieces6, blk0, blk1, blk2, blk3, blk4]
  exact read_rows VO1_6 _ (fun k => row1 (V c main_v6) (scAt V c k)) le_rfl j

theorem res7 : (dat1 V c).arrAt 7 cfg1.N = fun y : S100x1.Idx => row2 (V c main_v9) (scAt V c (y 0).val) o11 := by
  refine (dat1 V c).arrAt_eq_of_after_last 7 pt (by decide +kernel) _ fun j => ?_
  blk_simp
  rw [after1_7]
  unfold outsAt1 out1_A_7
  dsimp only
  rw [pieces7, blk0, blk1, blk2, blk3, blk4]
  exact read_rows VO1_7 _ (fun k => row2 (V c main_v9) (scAt V c k)) le_rfl j

theorem res8 : (dat1 V c).arrAt 8 cfg1.N = fun y : S100x1.Idx => row3 (V c main_v12) (scAt V c (y 0).val) o11 := by
  refine (dat1 V c).arrAt_eq_of_after_last 8 pt (by decide +kernel) _ fun j => ?_
  blk_simp
  rw [after1_8]
  unfold outsAt1 out1_A_8
  dsimp only
  rw [pieces8, blk0, blk1, blk2, blk3, blk4]
  exact read_rows VO1_8 _ (fun k => row3 (V c main_v12) (scAt V c k)) le_rfl j

theorem res9 : (dat1 V c).arrAt 9 cfg1.N = fun y : S100x1.Idx => row4 (V c main_v15) (scAt V c (y 0).val) o11 := by
  refine (dat1 V c).arrAt_eq_of_after_last 9 pt (by decide +kernel) _ fun j => ?_
  blk_simp
  rw [after1_9]
  unfold outsAt1 out1_A_9
  dsimp only
  rw [pieces9, blk0, blk1, blk2, blk3, blk4]
  exact read_rows VO1_9 _ (fun k => row4 (V c main_v15) (scAt V c k)) le_rfl j

theorem res10 : (dat1 V c).arrAt 10 cfg1.N = fun y : S100x1.Idx => row5 (scAt V c (y 0).val) o11 := by
  refine (dat1 V c).arrAt_eq_of_after_last 10 pt (by decide +kernel) _ fun j => ?_
  blk_simp
  rw [after1_10]
  unfold outsAt1 out1_A_10
  dsimp only
  rw [pieces10, blk0, blk1, blk2, blk3, blk4]
  exact read_rows VO1_10 _ (fun k => row5 (scAt V c k)) le_rfl j

theorem res11 : (dat1 V c).arrAt 11 cfg1.N = fun y : S100x1.Idx => row6 (V c main_v18) (scAt V c (y 0).val) o11 := by
  refine (dat1 V c).arrAt_eq_of_after_last 11 pt (by decide +kernel) _ fun j => ?_
  blk_simp
  rw [after1_11]
  unfold outsAt1 out1_A_11
  dsimp only
  rw [pieces11, blk0, blk1, blk2, blk3, blk4, blk5]
  exact read_rows VO1_11 _ (fun k => row6 (V c main_v18) (scAt V c k)) le_rfl j

end Cert.KRes

end
-- ==== Proof.KOut.lean ====
/-
  The kernel's three results as rounds of greedy suppression over the boxes, labels and scores its first region leaves.
-/
module

public import proofs.«01_k».proof.Proof.KRes
public import proofs.«01_k».proof.Proof.KTrip

@[expose] public section

set_option maxRecDepth 16384
noncomputable section

namespace Cert.KOut

open Idealize.ShloMosaic Idealize.ShloMosaic.TcCoe Idealize.ShloMosaic.Tactic
open Cert.KernelIdeal Cert.KernelIdeal.Gen Cert.KLoop Cert.Top Cert.Nms Cert.KTrip Cert.KRes Cert.KRun

theorem grid_f (x : FVec Ideal S20000x1 .f32) (v : S_.Idx → EReal) (r : Fin 160) (c : Fin 128) :
    grid (F := Ideal) (e := .f32) x v (ix2 r c) = spread (fun n => x (ix2 n 0)) (v ix0) r c := by
  pointwise [grid]
  rw [show Shape.Idx.first h_S_ = ix0 from ValueIdx.eq_ix0 _]
  rfl

theorem grid_i (x : IVec S20000x1 32) (v : S_.Idx → BitVec 32) (r : Fin 160) (c : Fin 128) :
    grid (F := Ideal) (e := .i32) x v (ix2 r c) = spread (fun n => x (ix2 n 0)) (v ix0) r c := by
  pointwise [grid]
  rw [show Shape.Idx.first h_S_ = ix0 from ValueIdx.eq_ix0 _]
  rfl

section
variable (v0 v2 v4 v6 : FVec Ideal S160x128 .f32) (v8 : IVec S160x128 32) (acc : FVec Ideal S160x128 .f32) (s a b c d : EReal) (w : BitVec 32)
  (hs : k1_pay12 (F := Ideal) acc = s)
include hs

theorem row1_at (h : px1 v0 acc = a) : row1 v0 acc o11 = gate s a := by
  unfold row1
  rw [hs, h]
  pointwise [k1_pay21]
  rfl
theorem row2_at (h : py1 v2 acc = a) : row2 v2 acc o11 = gate s a := by
  unfold row2
  rw [hs, h]
  pointwise [k1_pay22]
  rfl
theorem row3_at (h : px2 v4 acc = a) : row3 v4 acc o11 = gate s a := by
  unfold row3
  rw [hs, h]
  pointwise [k1_pay23]
  rfl
theorem row4_at (h : py2 v6 acc = a) : row4 v6 acc o11 = gate s a := by
  unfold row4 pos
  rw [hs, h]
  pointwise [k1_pay9]
  rfl
theorem row5_at : row5 acc o11 = gate s s := by
  unfold row5 pos
  rw [hs]
  pointwise [k1_pay10]
  rfl
theorem row6_at (h : plab (F := Ideal) v8 acc = w) : row6 v8 acc o11 = gateW s w := by
  unfold row6 pos
  rw [hs, h]
  pointwise [k1_pay11]
  rfl
end

section
variable (m : (ℓ : Loc nD τ sig) → Buf (Elt Ideal) ℓ) (ρ : Dev nD → PrngReg) (c : Dev nD)

/-- The first region's boxes, labels and scores, box by box. -/
def X1 (n : Fin 20000) : EReal := (show FVec Ideal S20000x1 .f32 from prep m ρ c 3) (ix2 n 0)
def Y1 (n : Fin 20000) : EReal := (show FVec Ideal S20000x1 .f32 from prep m ρ c 4) (ix2 n 0)
def X2 (n : Fin 20000) : EReal := (show FVec Ideal S20000x1 .f32 from prep m ρ c 5) (ix2 n 0)
def Y2 (n : Fin 20000) : EReal := (show FVec Ideal S20000x1 .f32 from prep m ρ c 6) (ix2 n 0)
def SC (n : Fin 20000) : EReal := (show FVec Ideal S20000x1 .f32 from prep m ρ c 7) (ix2 n 0)
def LB (n : Fin 20000) : BitVec 32 := (show IVec S20000x1 32 from prep m ρ c 8) (ix2 n 0)

variable (hS : ∀ n, low ≤ SC m ρ c n)
  (h1 : ∀ n, Ideal.ofBits .f32 0xF149F2CA#32 ≤ X1 m ρ c n) (h2 : ∀ n, Ideal.ofBits .f32 0xF149F2CA#32 ≤ Y1 m ρ c n)
  (h3 : ∀ n, Ideal.ofBits .f32 0xF149F2CA#32 ≤ X2 m ρ c n) (h4 : ∀ n, Ideal.ofBits .f32 0xF149F2CA#32 ≤ Y2 m ρ c n)
  (hL : ∀ n, 0 ≤ (LB m ρ c n).toInt)

theorem gx1 (r : Fin 160) (q : Fin 128) : (show FVec Ideal S160x128 .f32 from V14 m ρ c main_v6) (ix2 r q) = spread (X1 m ρ c) (Ideal.ofBits .f32 0x00000000#32) r q :=
  (congrFun (x1_eq m ρ c) _).trans (grid_f _ _ r q)
theorem gy1 (r : Fin 160) (q : Fin 128) : (show FVec Ideal S160x128 .f32 from V14 m ρ c main_v9) (ix2 r q) = spread (Y1 m ρ c) (Ideal.ofBits .f32 0x00000000#32) r q :=
  (congrFun (y1_eq m ρ c) _).trans (grid_f _ _ r q)
theorem gx2 (r : Fin 160) (q : Fin 128) : (show FVec Ideal S160x128 .f32 from V14 m ρ c main_v12) (ix2 r q) = spread (X2 m ρ c) (Ideal.ofBits .f32 0x00000000#32) r q :=
  (congrFun (x2_eq m ρ c) _).trans (grid_f _ _ r q)
theorem gy2 (r : Fin 160) (q : Fin 128) : (show FVec Ideal S160x128 .f32 from V14 m ρ c main_v15) (ix2 r q) = spread (Y2 m ρ c) (Ideal.ofBits .f32 0x00000000#32) r q :=
  (congrFun (y2_eq m ρ c) _).trans (grid_f _ _ r q)
theorem gsc (r : Fin 160) (q : Fin 128) : (show FVec Ideal S160x128 .f32 from V14 m ρ c main_v3) (ix2 r q) = spread (SC m ρ c) low r q :=
  (congrFun (sc_eq m ρ c) _).trans (grid_f _ _ r q)
theorem glb (r : Fin 160) (q : Fin 128) : (show IVec S160x128 32 from V14 m ρ c main_v18) (ix2 r q) = spread (LB m ρ c) 0#32 r q :=
  (congrFun (lb_eq m ρ c) _).trans (grid_i _ _ r q)

/-- The scores the rounds leave, laid out over the grid, are the loop's. -/
abbrev scs (k : ℕ) : Fin 20000 → EReal := scores (X1 m ρ c) (Y1 m ρ c) (X2 m ρ c) (Y2 m ρ c) (SC m ρ c) k

include hS h1 h2 h3 h4

theorem acc_eq : ∀ (k : ℕ) (r : Fin 160) (q : Fin 128), scAt (V14 m ρ) c k (ix2 r q) = spread (scs m ρ c k) low r q
  | 0, r, q => by
    show k1_pay8 (F := Ideal) (V14 m ρ c main_v3) (ix2 r q) = _
    pointwise [k1_pay8]
    exact gsc m ρ c r q
  | k + 1, r, q => by
    exact next_eq (scAt (V14 m ρ) c k) (scs m ρ c k) (best (scs m ρ c k)) (acc_eq k) (low_le_scores _ _ _ _ _ hS k) (best_top _)
      (X1 m ρ c) (Y1 m ρ c) (X2 m ρ c) (Y2 m ρ c) _ _ _ _ _ _ _ _ (gx1 m ρ c) (gy1 m ρ c) (gx2 m ρ c) (gy2 m ρ c)
      (h1 _) (h2 _) (h3 _) (h4 _) r q

section
variable (k : ℕ)

theorem best_eq : k1_pay12 (F := Ideal) (scAt (V14 m ρ) c k) = scs m ρ c k (best (scs m ρ c k)) :=
  max_eq _ _ _ (acc_eq m ρ c hS h1 h2 h3 h4 k) (low_le_scores _ _ _ _ _ hS k) (best_top _)

theorem px1_at : px1 (F := Ideal) (V14 m ρ c main_v6) (scAt (V14 m ρ) c k) = X1 m ρ c (best (scs m ρ c k)) :=
  pick_eq _ _ _ (acc_eq m ρ c hS h1 h2 h3 h4 k) (low_le_scores _ _ _ _ _ hS k) (best_top _) (X1 m ρ c) _ _ (gx1 m ρ c) (h1 _)
theorem py1_at : py1 (F := Ideal) (V14 m ρ c main_v9) (scAt (V14 m ρ) c k) = Y1 m ρ c (best (scs m ρ c k)) :=
  pick_eq _ _ _ (acc_eq m ρ c hS h1 h2 h3 h4 k) (low_le_scores _ _ _ _ _ hS k) (best_top _) (Y1 m ρ c) _ _ (gy1 m ρ c) (h2 _)
theorem px2_at : px2 (F := Ideal) (V14 m ρ c main_v12) (scAt (V14 m ρ) c k) = X2 m ρ c (best (scs m ρ c k)) :=
  pick_eq _ _ _ (acc_eq m ρ c hS h1 h2 h3 h4 k) (low_le_scores _ _ _ _ _ hS k) (best_top _) (X2 m ρ c) _ _ (gx2 m ρ c) (h3 _)
theorem py2_at : py2 (F := Ideal) (V14 m ρ c main_v15) (scAt (V14 m ρ) c k) = Y2 m ρ c (best (scs m ρ c k)) :=
  pick_eq _ _ _ (acc_eq m ρ c hS h1 h2 h3 h4 k) (low_le_scores _ _ _ _ _ hS k) (best_top _) (Y2 m ρ c) _ _ (gy2 m ρ c) (h4 _)

include hL in
theorem plab_at : plab (F := Ideal) (V14 m ρ c main_v18) (scAt (V14 m ρ) c k) = LB m ρ c (best (scs m ρ c k)) :=
  lab_eq _ _ _ (acc_eq m ρ c hS h1 h2 h3 h4 k) (low_le_scores _ _ _ _ _ hS k) (best_top _) (LB m ρ c) _ _ (glb m ρ c) (hL _)
end

/-- The picked box of row `j`, coordinate by coordinate. -/
theorem boxes_eq (j : Fin 100) (q : Fin 4) : (show FVec Ideal S100x4 .f32 from W16 m ρ c (Proc.devRef .tc main_v20)) (ix2 j q)
    = gate (scs m ρ c j (best (scs m ρ c j)))
      (coord (X1 m ρ c) (Y1 m ρ c) (X2 m ρ c) (Y2 m ρ c) q (best (scs m ρ c j))) := by
  refine (congrFun (v20_eq m ρ c) _).trans ?_
  unfold res
  rw [res6, res7, res8, res9]
  have hb := best_eq m ρ c hS h1 h2 h3 h4 j
  have e1 := row1_at _ _ _ _ hb (px1_at m ρ c hS h1 h2 h3 h4 j)
  have e2 := row2_at _ _ _ _ hb (py1_at m ρ c hS h1 h2 h3 h4 j)
  have e3 := row3_at _ _ _ _ hb (px2_at m ρ c hS h1 h2 h3 h4 j)
  have e4 := row4_at _ _ _ _ hb (py2_at m ρ c hS h1 h2 h3 h4 j)
  pointwise
  fin_vals q with hq
  · rw [dif_pos (by omega), e1, show q = 0 from Fin.ext hq]
    rfl
  · rw [dif_neg (by omega), dif_pos (by omega), e2, show q = 1 from Fin.ext hq]
    rfl
  · rw [dif_neg (by omega), dif_neg (by omega), dif_pos (by omega), e3, show q = 2 from Fin.ext hq]
    rfl
  · rw [dif_neg (by omega), dif_neg (by omega), dif_neg (by omega), e4, show q = 3 from Fin.ext hq]
    rfl

theorem scores_eq (j : Fin 100) : (show FVec Ideal S100 .f32 from W16 m ρ c (Proc.devRef .tc main_v21)) (ix1 j)
    = gate (scs m ρ c j (best (scs m ρ c j))) (scs m ρ c j (best (scs m ρ c j))) := by
  refine (congrFun (v21_eq m ρ c) _).trans ?_
  unfold res
  rw [res10]
  have e := row5_at _ _ (best_eq m ρ c hS h1 h2 h3 h4 j)
  pointwise
  exact e

include hL in
theorem labels_eq (j : Fin 100) : (show IVec S100 32 from W16 m ρ c (Proc.devRef .tc main_v22)) (ix1 j)
    = gateW (scs m ρ c j (best (scs m ρ c j))) (LB m ρ c (best (scs m ρ c j))) := by
  refine (congrFun (v22_eq m ρ c) _).trans ?_
  unfold res
  rw [res11]
  have e := row6_at _ _ _ _ (best_eq m ρ c hS h1 h2 h3 h4 j) (plab_at m ρ c hS h1 h2 h3 h4 hL j)
  pointwise
  exact e
end

end Cert.KOut
-- ==== Proof.KPrep.lean ====
/-
  The arrays the kernel's first region leaves, row by row, of the arguments.
-/
module

public import proofs.«01_k».proof.Proof.KRow
public import proofs.«01_k».proof.Proof.KOut
public import Idealize.ShloMosaic.Lib.Pipeline.ValueKit

@[expose] public section

set_option maxRecDepth 16384
noncomputable section

namespace Cert.KPrep

open Idealize.ShloMosaic Idealize.ShloMosaic.TcCoe Idealize.ShloMosaic.Tactic
open Idealize.ShloMosaic.Pipeline (Dat Cfg Window)
open Cert.KernelIdeal Cert.KernelIdeal.Gen Cert.Top Cert.Nms Cert.Row Cert.KRow Cert.KRun Cert.KOut

/-- Every window of the first region moves one block of rows a point. -/
theorem idx : ∀ t : Fin cfg0.N, win0_0.index t = ![t.val, 0] ∧ win0_1.index t = ![t.val, 0] ∧ win0_2.index t = ![t.val, 0]
    ∧ win0_3.index t = ![t.val, 0] ∧ win0_4.index t = ![t.val, 0] ∧ win0_5.index t = ![t.val, 0] ∧ win0_6.index t = ![t.val, 0]
    ∧ win0_7.index t = ![t.val, 0] ∧ win0_8.index t = ![t.val, 0] :=
  (by decide +kernel : ∀ t : Fin grid0.N, _)

variable (m : (ℓ : Loc nD τ sig) → Buf (Elt Ideal) ℓ) (ρ : Dev nD → PrngReg) (c : Dev nD)

/-- The three arguments, by row. -/
def lg (n : Fin 20000) (k : Fin 81) : EReal := (show FVec Ideal S20000x81 .f32 from m ((c : Thread nD τ).loc main_arg0)) (ix2 n k)
def br (n : Fin 20000) (k : Fin 324) : EReal := (show FVec Ideal S20000x324 .f32 from m ((c : Thread nD τ).loc main_arg1)) (ix2 n k)
def pr (n : Fin 20000) (k : Fin 4) : EReal := (show FVec Ideal S20000x4 .f32 from m ((c : Thread nD τ).loc main_arg2)) (ix2 n k)

/-- The row of an argument that row `r` of block `t` is. -/
def at_ (t : Fin cfg0.N) (r : Fin 1000) : Fin 20000 :=
  ⟨t.val * 1000 + r.val, by have h : t.val < 20 := lt_of_lt_of_eq t.isLt N_0; have := r.isLt; omega⟩

theorem rowL (t : Fin cfg0.N) (r : Fin 1000) (k : Fin 81) : (show FVec Ideal S1000x81 .f32 from iblk0 (V0 m ρ) c 0 t) (ix2 r k) = lg m c (at_ t r) k := by
  unfold lg at_
  blk_point [iblk0, V0, idx t]

theorem rowB (t : Fin cfg0.N) (r : Fin 1000) (k : Fin 324) : (show FVec Ideal S1000x324 .f32 from iblk0 (V0 m ρ) c 1 t) (ix2 r k) = br m c (at_ t r) k := by
  unfold br at_
  blk_point [iblk0, V0, idx t]

theorem rowP (t : Fin cfg0.N) (r : Fin 1000) (k : Fin 4) : (show FVec Ideal S1000x4 .f32 from iblk0 (V0 m ρ) c 2 t) (ix2 r k) = pr m c (at_ t r) k := by
  unfold pr at_
  blk_point [iblk0, V0, idx t]

theorem fL (t : Fin cfg0.N) (r : Fin 1000) : (fun k : Fin 81 => (show FVec Ideal S1000x81 .f32 from iblk0 (V0 m ρ) c 0 t) (ix2 r k)) = lg m c (at_ t r) :=
  funext fun k => rowL m ρ c t r k
theorem fB (t : Fin cfg0.N) (r : Fin 1000) : (fun k : Fin 324 => (show FVec Ideal S1000x324 .f32 from iblk0 (V0 m ρ) c 1 t) (ix2 r k)) = br m c (at_ t r) :=
  funext fun k => rowB m ρ c t r k
theorem fP (t : Fin cfg0.N) (r : Fin 1000) : (fun k : Fin 4 => (show FVec Ideal S1000x4 .f32 from iblk0 (V0 m ρ) c 2 t) (ix2 r k)) = pr m c (at_ t r) :=
  funext fun k => rowP m ρ c t r k

theorem box_congr {b b' : Fin 324 → EReal} {p p' : Fin 4 → EReal} {l l' : Fin 81 → EReal} (hb : b = b') (hp : p = p') (hl : l = l') (q : Fin 4) :
    box b p (top l) q = box b' p' (top l') q := by
  rw [hb, hp, hl]

theorem point3 (t : Fin cfg0.N) (r : Fin 1000) (z : Fin 1) : k0_pay18 (k0_pay30 (F := Ideal) (iblk0 (V0 m ρ) c 0 t) (iblk0 (V0 m ρ) c 1 t) (iblk0 (V0 m ρ) c 2 t)) (k0_pay32 (iblk0 (V0 m ρ) c 0 t) (iblk0 (V0 m ρ) c 1 t) (iblk0 (V0 m ρ) c 2 t)) (ix2 r z) = box (br m c (at_ t r)) (pr m c (at_ t r)) (top (lg m c (at_ t r))) 0 := by
  rw [show z = 0 from Subsingleton.elim _ _]
  refine Eq.trans ?_ ((corner1 (iblk0 (V0 m ρ) c 0 t) (iblk0 (V0 m ρ) c 1 t) (iblk0 (V0 m ρ) c 2 t) r).trans (box_congr (fB m ρ c t r) (fP m ρ c t r) (fL m ρ c t r) 0))
  open_payloads
  unfold k0_pay23
  rfl

theorem point4 (t : Fin cfg0.N) (r : Fin 1000) (z : Fin 1) : k0_pay19 (k0_pay27 (F := Ideal) (iblk0 (V0 m ρ) c 0 t) (iblk0 (V0 m ρ) c 1 t) (iblk0 (V0 m ρ) c 2 t)) (k0_pay29 (iblk0 (V0 m ρ) c 0 t) (iblk0 (V0 m ρ) c 1 t) (iblk0 (V0 m ρ) c 2 t)) (k0_pay31 (iblk0 (V0 m ρ) c 0 t) (iblk0 (V0 m ρ) c 1 t) (iblk0 (V0 m ρ) c 2 t)) (ix2 r z) = box (br m c (at_ t r)) (pr m c (at_ t r)) (top (lg m c (at_ t r))) 1 := by
  rw [show z = 0 from Subsingleton.elim _ _]
  refine Eq.trans ?_ ((corner2 (iblk0 (V0 m ρ) c 0 t) (iblk0 (V0 m ρ) c 1 t) (iblk0 (V0 m ρ) c 2 t) r).trans (box_congr (fB m ρ c t r) (fP m ρ c t r) (fL m ρ c t r) 1))
  open_payloads
  unfold k0_pay23
  rfl

theorem point5 (t : Fin cfg0.N) (r : Fin 1000) (z : Fin 1) : k0_pay20 (k0_pay30 (F := Ideal) (iblk0 (V0 m ρ) c 0 t) (iblk0 (V0 m ρ) c 1 t) (iblk0 (V0 m ρ) c 2 t)) (k0_pay32 (iblk0 (V0 m ρ) c 0 t) (iblk0 (V0 m ρ) c 1 t) (iblk0 (V0 m ρ) c 2 t)) (ix2 r z) = box (br m c (at_ t r)) (pr m c (at_ t r)) (top (lg m c (at_ t r))) 2 := by
  rw [show z = 0 from Subsingleton.elim _ _]
  refine Eq.trans ?_ ((corner3 (iblk0 (V0 m ρ) c 0 t) (iblk0 (V0 m ρ) c 1 t) (iblk0 (V0 m ρ) c 2 t) r).trans (box_congr (fB m ρ c t r) (fP m ρ c t r) (fL m ρ c t r) 2))
  open_payloads
  unfold k0_pay23
  rfl

theorem point6 (t : Fin cfg0.N) (r : Fin 1000) (z : Fin 1) : k0_pay21 (k0_pay27 (F := Ideal) (iblk0 (V0 m ρ) c 0 t) (iblk0 (V0 m ρ) c 1 t) (iblk0 (V0 m ρ) c 2 t)) (k0_pay29 (iblk0 (V0 m ρ) c 0 t) (iblk0 (V0 m ρ) c 1 t) (iblk0 (V0 m ρ) c 2 t)) (k0_pay31 (iblk0 (V0 m ρ) c 0 t) (iblk0 (V0 m ρ) c 1 t) (iblk0 (V0 m ρ) c 2 t)) (ix2 r z) = box (br m c (at_ t r)) (pr m c (at_ t r)) (top (lg m c (at_ t r))) 3 := by
  rw [show z = 0 from Subsingleton.elim _ _]
  refine Eq.trans ?_ ((corner4 (iblk0 (V0 m ρ) c 0 t) (iblk0 (V0 m ρ) c 1 t) (iblk0 (V0 m ρ) c 2 t) r).trans (box_congr (fB m ρ c t r) (fP m ρ c t r) (fL m ρ c t r) 3))
  open_payloads
  unfold k0_pay23
  rfl

theorem point7 (t : Fin cfg0.N) (r : Fin 1000) (z : Fin 1) : k0_pay1 (k0_pay24 (F := Ideal) (iblk0 (V0 m ρ) c 0 t) (iblk0 (V0 m ρ) c 1 t) (iblk0 (V0 m ρ) c 2 t)) (k0_pay22 (k0_pay24 (iblk0 (V0 m ρ) c 0 t) (iblk0 (V0 m ρ) c 1 t) (iblk0 (V0 m ρ) c 2 t)) (k0_pay25 (iblk0 (V0 m ρ) c 0 t) (iblk0 (V0 m ρ) c 1 t) (iblk0 (V0 m ρ) c 2 t))) (ix2 r z) = score (lg m c (at_ t r)) := by
  rw [show z = 0 from Subsingleton.elim _ _]
  refine Eq.trans ?_ ((kept_at (iblk0 (V0 m ρ) c 0 t) r).trans (congrArg score (fL m ρ c t r)))
  open_payloads

theorem point8 (t : Fin cfg0.N) (r : Fin 1000) (z : Fin 1) : k0_pay25 (F := Ideal) (iblk0 (V0 m ρ) c 0 t) (iblk0 (V0 m ρ) c 1 t) (iblk0 (V0 m ρ) c 2 t) (ix2 r z) = BitVec.ofNat 32 (top (lg m c (at_ t r))).val := by
  rw [show z = 0 from Subsingleton.elim _ _]
  refine Eq.trans ?_ ((label_at (iblk0 (V0 m ρ) c 0 t) r).trans (congrArg (fun l => BitVec.ofNat 32 (top l).val) (fL m ρ c t r)))
  open_payloads

theorem arr3 : prep m ρ c 3 = fun i : S20000x1.Idx => box (br m c (i 0)) (pr m c (i 0)) (top (lg m c (i 0))) 0 := by
  refine (dat0 (V0 m ρ) c).arrAt_eq_of_covers 3 _ (by decide +kernel) fun t hf y => ?_
  have ht : t.val < 20 := lt_of_lt_of_eq t.isLt N_0
  obtain ⟨r, z, rfl⟩ : ∃ (r : Fin 1000) (z : Fin 1), y = ix2 r z := ⟨y 0, y 1, funext fun a => match a with | ⟨0, _⟩ => rfl | ⟨1, _⟩ => rfl⟩
  blk_simp
  rw [after0_3]
  frame_out
  have e : (((View.whole main_v0_0).slice (win0_3.rect t)).emb (ix2 r z) 0) = at_ t r := by
    refine Fin.ext ?_
    unfold at_
    blk_simp [idx t]
  rw [e]
  exact point3 m ρ c t r z

theorem arr4 : prep m ρ c 4 = fun i : S20000x1.Idx => box (br m c (i 0)) (pr m c (i 0)) (top (lg m c (i 0))) 1 := by
  refine (dat0 (V0 m ρ) c).arrAt_eq_of_covers 4 _ (by decide +kernel) fun t hf y => ?_
  have ht : t.val < 20 := lt_of_lt_of_eq t.isLt N_0
  obtain ⟨r, z, rfl⟩ : ∃ (r : Fin 1000) (z : Fin 1), y = ix2 r z := ⟨y 0, y 1, funext fun a => match a with | ⟨0, _⟩ => rfl | ⟨1, _⟩ => rfl⟩
  blk_simp
  rw [after0_4]
  frame_out
  have e : (((View.whole main_v0_1).slice (win0_4.rect t)).emb (ix2 r z) 0) = at_ t r := by
    refine Fin.ext ?_
    unfold at_
    blk_simp [idx t]
  rw [e]
  exact point4 m ρ c t r z

theorem arr5 : prep m ρ c 5 = fun i : S20000x1.Idx => box (br m c (i 0)) (pr m c (i 0)) (top (lg m c (i 0))) 2 := by
  refine (dat0 (V0 m ρ) c).arrAt_eq_of_covers 5 _ (by decide +kernel) fun t hf y => ?_
  have ht : t.val < 20 := lt_of_lt_of_eq t.isLt N_0
  obtain ⟨r, z, rfl⟩ : ∃ (r : Fin 1000) (z : Fin 1), y = ix2 r z := ⟨y 0, y 1, funext fun a => match a with | ⟨0, _⟩ => rfl | ⟨1, _⟩ => rfl⟩
  blk_simp
  rw [after0_5]
  frame_out
  have e : (((View.whole main_v0_2).slice (win0_5.rect t)).emb (ix2 r z) 0) = at_ t r := by
    refine Fin.ext ?_
    unfold at_
    blk_simp [idx t]
  rw [e]
  exact point5 m ρ c t r z

theorem arr6 : prep m ρ c 6 = fun i : S20000x1.Idx => box (br m c (i 0)) (pr m c (i 0)) (top (lg m c (i 0))) 3 := by
  refine (dat0 (V0 m ρ) c).arrAt_eq_of_covers 6 _ (by decide +kernel) fun t hf y => ?_
  have ht : t.val < 20 := lt_of_lt_of_eq t.isLt N_0
  obtain ⟨r, z, rfl⟩ : ∃ (r : Fin 1000) (z : Fin 1), y = ix2 r z := ⟨y 0, y 1, funext fun a => match a with | ⟨0, _⟩ => rfl | ⟨1, _⟩ => rfl⟩
  blk_simp
  rw [after0_6]
  frame_out
  have e : (((View.whole main_v0_3).slice (win0_6.rect t)).emb (ix2 r z) 0) = at_ t r := by
    refine Fin.ext ?_
    unfold at_
    blk_simp [idx t]
  rw [e]
  exact point6 m ρ c t r z

theorem arr7 : prep m ρ c 7 = fun i : S20000x1.Idx => score (lg m c (i 0)) := by
  refine (dat0 (V0 m ρ) c).arrAt_eq_of_covers 7 _ (by decide +kernel) fun t hf y => ?_
  have ht : t.val < 20 := lt_of_lt_of_eq t.isLt N_0
  obtain ⟨r, z, rfl⟩ : ∃ (r : Fin 1000) (z : Fin 1), y = ix2 r z := ⟨y 0, y 1, funext fun a => match a with | ⟨0, _⟩ => rfl | ⟨1, _⟩ => rfl⟩
  blk_simp
  rw [after0_7]
  frame_out
  have e : (((View.whole main_v0_4).slice (win0_7.rect t)).emb (ix2 r z) 0) = at_ t r := by
    refine Fin.ext ?_
    unfold at_
    blk_simp [idx t]
  rw [e]
  exact point7 m ρ c t r z

theorem arr8 : prep m ρ c 8 = fun i : S20000x1.Idx => BitVec.ofNat 32 (top (lg m c (i 0))).val := by
  refine (dat0 (V0 m ρ) c).arrAt_eq_of_covers 8 _ (by decide +kernel) fun t hf y => ?_
  have ht : t.val < 20 := lt_of_lt_of_eq t.isLt N_0
  obtain ⟨r, z, rfl⟩ : ∃ (r : Fin 1000) (z : Fin 1), y = ix2 r z := ⟨y 0, y 1, funext fun a => match a with | ⟨0, _⟩ => rfl | ⟨1, _⟩ => rfl⟩
  blk_simp
  rw [after0_8]
  frame_out
  have e : (((View.whole main_v0_5).slice (win0_8.rect t)).emb (ix2 r z) 0) = at_ t r := by
    refine Fin.ext ?_
    unfold at_
    blk_simp [idx t]
  rw [e]
  exact point8 m ρ c t r z

theorem X1_eq : X1 m ρ c = fun n => box (br m c n) (pr m c n) (top (lg m c n)) 0 := funext fun n => congrFun (arr3 m ρ c) (ix2 n 0)
theorem Y1_eq : Y1 m ρ c = fun n => box (br m c n) (pr m c n) (top (lg m c n)) 1 := funext fun n => congrFun (arr4 m ρ c) (ix2 n 0)
theorem X2_eq : X2 m ρ c = fun n => box (br m c n) (pr m c n) (top (lg m c n)) 2 := funext fun n => congrFun (arr5 m ρ c) (ix2 n 0)
theorem Y2_eq : Y2 m ρ c = fun n => box (br m c n) (pr m c n) (top (lg m c n)) 3 := funext fun n => congrFun (arr6 m ρ c) (ix2 n 0)
theorem SC_eq : SC m ρ c = fun n => score (lg m c n) := funext fun n => congrFun (arr7 m ρ c) (ix2 n 0)
theorem LB_eq : LB m ρ c = fun n => BitVec.ofNat 32 (top (lg m c n)).val := funext fun n => congrFun (arr8 m ρ c) (ix2 n 0)

theorem box_filler (b : Fin 324 → EReal) (p : Fin 4 → EReal) (t : Fin 81) (q : Fin 4) : Ideal.ofBits .f32 0xF149F2CA#32 ≤ box b p t q :=
  filler_le_zero.trans (box_nonneg b p t q)

theorem hS (n : Fin 20000) : low ≤ SC m ρ c n := by
  rw [SC_eq]
  exact low_le_score _
theorem h1 (n : Fin 20000) : Ideal.ofBits .f32 0xF149F2CA#32 ≤ X1 m ρ c n := by
  rw [X1_eq]
  exact box_filler _ _ _ _
theorem h2 (n : Fin 20000) : Ideal.ofBits .f32 0xF149F2CA#32 ≤ Y1 m ρ c n := by
  rw [Y1_eq]
  exact box_filler _ _ _ _
theorem h3 (n : Fin 20000) : Ideal.ofBits .f32 0xF149F2CA#32 ≤ X2 m ρ c n := by
  rw [X2_eq]
  exact box_filler _ _ _ _
theorem h4 (n : Fin 20000) : Ideal.ofBits .f32 0xF149F2CA#32 ≤ Y2 m ρ c n := by
  rw [Y2_eq]
  exact box_filler _ _ _ _
theorem hL (n : Fin 20000) : 0 ≤ (LB m ρ c n).toInt := by
  rw [LB_eq]
  show 0 ≤ (BitVec.ofNat 32 (top (lg m c n)).val).toInt
  rw [KTrip.toInt_word _ (by have := (top (lg m c n)).isLt; omega)]
  exact Int.natCast_nonneg _

end Cert.KPrep
-- ==== Proof.RTrip.lean ====
/-
  One trip of the reference's loop, read entry by entry.
-/
module

public import proofs.«01_k».proof.Proof.Gen.ReferenceIdeal.Step
public import proofs.«01_k».proof.Proof.Nms
public import Idealize.ShloMosaic.PureOps.Ideal
public import Idealize.ShloMosaic.PureOps.Ideal.Laws
public import Idealize.ShloMosaic.Lib.WordArith
public import Idealize.ShloMosaic.Lib.Pointwise
public import Idealize.ShloMosaic.Lib.Routing.OpsOne

@[expose] public section

set_option maxRecDepth 16384
noncomputable section

namespace Cert.RTrip

open Idealize.ShloMosaic Idealize.ShloMosaic.TcCoe Idealize.ShloMosaic.Tactic
open Cert.ReferenceIdeal Cert.ReferenceIdeal.Gen Cert.ReferenceIdeal.Step Cert.Top Cert.Nms

/-- A place below 2³¹ is not negative, so the wrap-around of negative indices leaves it alone. -/
theorem wrap (n k : ℕ) (h : n < 2 ^ 31) :
    Scalar.select (IntOp.cmpi .slt (BitVec.ofNat 32 n) 0#32) (IntOp.addi (BitVec.ofNat 32 n) (BitVec.ofNat 32 k)) (BitVec.ofNat 32 n) = BitVec.ofNat 32 n := by
  have : (BitVec.ofNat 32 n).slt 0#32 = false := by
    rw [BitVec.slt, WordArith.toInt_ofNat_small n h]
    simp
  simp [IntOp.cmpi, this, Scalar.select]

/-- One entry sliced out at a start that is inside. -/
theorem slice1 {α : Type} (x : S20000.Idx → α) (st : Fin 1 → ℤ) (h : S20000.Slices (fun _ => 0) S1) (b : Fin 20000) (hs : st 0 = b.val) :
    Host.dynamicSlice S1 x st h (ix1 (0 : Fin 1)) = x (ix1 b) := by
  have h0 : Host.clampedStart S20000 S1 h.1 st 0 = b.val := Host.clampedStart_of_le _ _ _ _ hs b.isLt
  rw [Host.dynamicSlice_apply]
  refine congrArg x (funext fun a => ?_)
  match a with
  | ⟨0, _⟩ => exact Fin.ext h0

/-- One row sliced out at a start that is inside. -/
theorem slice2 {α : Type} (x : S20000x4.Idx → α) (st : Fin 2 → ℤ) (h : S20000x4.Slices (fun _ => 0) S1x4) (b : Fin 20000) (q : Fin 4)
    (hs : st 0 = b.val) (ht : st 1 = 0) :
    Host.dynamicSlice S1x4 x st h (ix2 (0 : Fin 1) q) = x (ix2 b q) := by
  have h0 : Host.clampedStart S20000x4 S1x4 h.1 st 0 = b.val := Host.clampedStart_of_le _ _ _ _ hs b.isLt
  have h1 : Host.clampedStart S20000x4 S1x4 h.1 st 1 = 0 := Host.clampedStart_of_le _ _ _ 0 ht (Nat.le_refl 4)
  rw [Host.dynamicSlice_apply]
  refine congrArg x (funext fun a => ?_)
  match a with
  | ⟨0, _⟩ => exact Fin.ext h0
  | ⟨1, _⟩ => exact Fin.ext ((congrArg (· + q.val) h1).trans (Nat.zero_add _))

/-- One entry written at a start that is inside. -/
theorem update1 {α : Type} (x : S100.Idx → α) (y : S1.Idx → α) (st : Fin 1 → ℤ) (h : S100.Slices (fun _ => 0) S1) (k : ℕ) (hk : k < 100)
    (hs : st 0 = k) (i : Fin 100) :
    Host.dynamicUpdateSlice x y st h (ix1 i) = if i.val = k then y (ix1 (0 : Fin 1)) else x (ix1 i) := by
  have h0 : Host.clampedStart S100 S1 h.1 st 0 = k := Host.clampedStart_of_le _ _ _ _ hs hk
  rw [Host.dynamicUpdateSlice_apply]
  by_cases e : i.val = k
  · rw [if_pos e, dif_pos]
    · refine congrArg y (funext fun a => ?_)
      match a with
      | ⟨0, _⟩ => exact Fin.ext (by show i.val - Host.clampedStart S100 S1 h.1 st 0 = 0; omega)
    · intro a
      match a with
      | ⟨0, _⟩ => exact ⟨by show Host.clampedStart S100 S1 h.1 st 0 ≤ i.val; omega, by show i.val < Host.clampedStart S100 S1 h.1 st 0 + 1; omega⟩
  · rw [if_neg e, dif_neg]
    intro hh
    have h2 : Host.clampedStart S100 S1 h.1 st 0 ≤ i.val ∧ i.val < Host.clampedStart S100 S1 h.1 st 0 + 1 := hh 0
    omega

/-- One row written at a start that is inside. -/
theorem update2 {α : Type} (x : S100x4.Idx → α) (y : S1x4.Idx → α) (st : Fin 2 → ℤ) (h : S100x4.Slices (fun _ => 0) S1x4) (k : ℕ) (hk : k < 100)
    (hs : st 0 = k) (ht : st 1 = 0) (i : Fin 100) (q : Fin 4) :
    Host.dynamicUpdateSlice x y st h (ix2 i q) = if i.val = k then y (ix2 (0 : Fin 1) q) else x (ix2 i q) := by
  have h0 : Host.clampedStart S100x4 S1x4 h.1 st 0 = k := Host.clampedStart_of_le _ _ _ _ hs hk
  have h1 : Host.clampedStart S100x4 S1x4 h.1 st 1 = 0 := Host.clampedStart_of_le _ _ _ 0 ht (Nat.le_refl 4)
  rw [Host.dynamicUpdateSlice_apply]
  by_cases e : i.val = k
  · rw [if_pos e, dif_pos]
    · refine congrArg y (funext fun a => ?_)
      match a with
      | ⟨0, _⟩ => exact Fin.ext (by show i.val - Host.clampedStart S100x4 S1x4 h.1 st 0 = 0; omega)
      | ⟨1, _⟩ => exact Fin.ext (by show q.val - Host.clampedStart S100x4 S1x4 h.1 st 1 = q.val; omega)
    · intro a
      match a with
      | ⟨0, _⟩ => exact ⟨by show Host.clampedStart S100x4 S1x4 h.1 st 0 ≤ i.val; omega, by show i.val < Host.clampedStart S100x4 S1x4 h.1 st 0 + 1; omega⟩
      | ⟨1, _⟩ =>
        have := q.isLt
        exact ⟨by show Host.clampedStart S100x4 S1x4 h.1 st 1 ≤ q.val; omega, by show q.val < Host.clampedStart S100x4 S1x4 h.1 st 1 + 4; omega⟩
  · rw [if_neg e, dif_neg]
    intro hh
    have h2 : Host.clampedStart S100x4 S1x4 h.1 st 0 ≤ i.val ∧ i.val < Host.clampedStart S100x4 S1x4 h.1 st 0 + 1 := hh 0
    omega

theorem cases_or {α : Type} (p q : Prop) [Decidable p] [Decidable q] [Decidable (p ∨ q)] (a b : α) :
    (if p then a else if q then a else b) = if p ∨ q then a else b := by
  by_cases hp : p <;> by_cases hq : q <;> simp [hp, hq]

theorem small (k : Fin 20000) : (BitVec.ofNat 32 k.val).toInt = (k.val : ℤ) :=
  WordArith.toInt_ofNat_small _ (by have := k.isLt; omega)

theorem first_ix0 : Shape.Idx.first h_S_ = ix0 := funext fun a => a.elim0

section
variable (j : ℕ) (s : State Ideal)

/-- The scores a trip starts from. -/
def sc (n : Fin 20000) : EReal := (show FVec Ideal S20000 .f32 from s.main_v127_3) (ix1 n)
def bx (n : Fin 20000) (q : Fin 4) : EReal := (show FVec Ideal S20000x4 .f32 from s.main_v127_0) (ix2 n q)
def lb (n : Fin 20000) : BitVec 32 := (show IVec S20000 32 from s.main_v127_1) (ix1 n)

theorem b1_at : b1 j s (ix1 (0 : Fin 1)) = BitVec.ofNat 32 (best (sc s)).val := by
  unfold b1
  refine topK_top (s := S20000) (t := S1) 0 Nat.zero_lt_one s.main_v127_3 _ (ix1 (0 : Fin 1)) (ix1 (0 : Fin 20000)) ?_ (best (sc s)) rfl ?_
  · intro a
    match a with
    | ⟨0, _⟩ => rfl
  · have h := best_top (sc s)
    unfold sc at h
    refine Eq.mp (congrArg (fun v => IsTop v _) (funext fun k => congrArg s.main_v127_3 ?_)) h
    exact (show (ix1 k : S20000.Idx) = Shape.Idx.ofFin k from funext fun a => match a with | ⟨0, _⟩ => rfl).trans (Shape.Idx.along_rank1 _ k).symm

theorem b2_at : b2 j s ix0 = BitVec.ofNat 32 (best (sc s)).val := by
  pointwise [b2]
  exact b1_at j s

theorem b7_at : b7 j s ix0 = BitVec.ofNat 32 (best (sc s)).val := by
  have h := b2_at j s
  pointwise [b7, b6, b5, b4, b3]
  rw [h]
  exact wrap _ _ (by have := (best (sc s)).isLt; omega)

theorem b14_at : b14 j s ix0 = BitVec.ofNat 32 (best (sc s)).val := b7_at j s
theorem b107_at : b107 j s ix0 = BitVec.ofNat 32 (best (sc s)).val := b7_at j s
theorem b119_at : b119 j s ix0 = BitVec.ofNat 32 (best (sc s)).val := b7_at j s

theorem b22_at : b22 j s ix0 = 0#32 := by
  pointwise [b22, b21, b20, b19, b18, b17, b16, b15]
  rfl

theorem b8_at : b8 j s (ix1 (0 : Fin 1)) = sc s (best (sc s)) := by
  have h7 : (b7 j s (Shape.Idx.first h_S_)).toInt = ((best (sc s)).val : ℤ) := by
    rw [first_ix0, b7_at, small]
  generalize best _ = b at h7 ⊢
  unfold b8
  refine slice1 (s.main_v127_3) _ _ b ?_
  simp only [Matrix.cons_val_zero]
  exact h7

theorem b9_at : b9 j s ix0 = sc s (best (sc s)) := by
  have h := b8_at j s
  pointwise [b9]
  exact h

theorem b23_at (q : Fin 4) : b23 j s (ix2 (0 : Fin 1) q) = bx s (best (sc s)) q := by
  have h7 : (b14 j s (Shape.Idx.first h_S_)).toInt = ((best (sc s)).val : ℤ) := by
    rw [first_ix0, b14_at, small]
  have h8 : (b22 j s (Shape.Idx.first h_S_)).toInt = 0 := by
    rw [first_ix0, b22_at]
    decide
  unfold b23 bx
  generalize best _ = b at h7 ⊢
  refine slice2 (s.main_v127_0) _ _ b q ?_ ?_
  · simp only [Matrix.cons_val_zero]
    exact h7
  · simp only [Matrix.cons_val_one, Matrix.cons_val_zero]
    exact h8

theorem b24_at (q : Fin 4) : b24 j s (ix1 q) = bx s (best (sc s)) q := by
  have h := b23_at j s q
  pointwise [b24]
  exact h

theorem b120_at : b120 j s (ix1 (0 : Fin 1)) = lb s (best (sc s)) := by
  have h7 : (b119 j s (Shape.Idx.first h_S_)).toInt = ((best (sc s)).val : ℤ) := by
    rw [first_ix0, b119_at, small]
  unfold b120 lb
  generalize best _ = b at h7 ⊢
  refine slice1 (s.main_v127_1) _ _ b ?_
  simp only [Matrix.cons_val_zero]
  exact h7

theorem b121_at : b121 j s ix0 = lb s (best (sc s)) := by
  have h := b120_at j s
  pointwise [b121]
  exact h

theorem lands (n : Fin 20000) (k : S_.Idx) :
    scatter_S20000_S1_S__n_0_0_0.resultIdx? k (b108 j s) = some (ix1 n : S20000.Idx) ↔ n = best (sc s) := by
  have hb : b108 j s (ix1 (0 : Fin 1)) = BitVec.ofNat 32 (best (sc s)).val := by
    have := b107_at j s
    pointwise [b108]
    exact this
  have hk : k = ix0 := funext fun a => a.elim0
  rw [hk]
  exact Routing.lands_one scatter_S20000_S1_S__n_0_0_0 rfl rfl (b108 j s) (best (sc s)) ((congrArg BitVec.toInt hb).trans (small _)) n

theorem b110_at (n : Fin 20000) : b110 j s (ix1 n) = if n = best (sc s) then low else sc s n := by
  unfold b110
  by_cases e : n = best (sc s)
  · rw [if_pos e]
    exact Routing.scatter_set_hit _ _ _ _ _ _ (fun k _ => rfl) ix0 ((lands j s n ix0).mpr e)
  · rw [if_neg e]
    exact Routing.scatter_set_miss _ _ _ _ _ (fun k hk => e ((lands j s n k).mp hk))

theorem b114_at (n : Fin 20000) : b114 j s (ix1 n)
    = clear (fun n => bx s n 0) (fun n => bx s n 1) (fun n => bx s n 2) (fun n => bx s n 3) (sc s) (best (sc s)) n := by
  have h := b110_at j s n
  have e := b24_at j s
  pointwise [b114, b113, b112, b111, b102, b101, b100, b99, b98, b97, b96, b95, b94, b93, b92, b91, b90, b89, b88, b87, b86, b85, b84, b83, b82, b81, b80, b79, b78, b77, b76, b75, b74, b73, b72, b71, b70, b69, b68, b67, b66, b65, b64, b63, b62, b61, b60, b59, b58, b57, b56, b55, b54, b53, b52, b51, b50, b49, b48, b47, b46, b45, b44, b43, b42, b41, b40, b39, b38, b37, b36, b35, b34, b33, b32, b31, b30, b29, b28, b27, b26, b25]
  rw [e, e, e, e, h]
  unfold clear iou inter half low bx
  exact cases_or _ _ _ _

theorem toInt_trip (hj : j < 100) : (BitVec.ofNat 32 j).toInt = (j : ℤ) :=
  WordArith.toInt_ofNat_small _ (by omega)

theorem b124_at (hj : j < 100) (i : Fin 100) (q : Fin 4) : b124 j s (ix2 i q)
    = if i.val = j then bx s (best (sc s)) q else (show FVec Ideal S100x4 .f32 from s.main_v127_4) (ix2 i q) := by
  have e : b122 j s (ix2 (0 : Fin 1) q) = bx s (best (sc s)) q := by
    have := b24_at j s q
    pointwise [b122]
    exact this
  rw [← e]
  exact update2 _ _ _ _ j hj (toInt_trip j hj) rfl i q

theorem b126_at (hj : j < 100) (i : Fin 100) : b126 j s (ix1 i)
    = if i.val = j then lb s (best (sc s)) else (show IVec S100 32 from s.main_v127_5) (ix1 i) := by
  have e : b125 j s (ix1 (0 : Fin 1)) = lb s (best (sc s)) := by
    have := b121_at j s
    pointwise [b125]
    exact this
  rw [← e]
  exact update1 _ _ _ _ j hj (toInt_trip j hj) i

theorem b128_at (hj : j < 100) (i : Fin 100) : b128 j s (ix1 i)
    = if i.val = j then sc s (best (sc s)) else (show FVec Ideal S100 .f32 from s.main_v127_6) (ix1 i) := by
  have e : b127 j s (ix1 (0 : Fin 1)) = sc s (best (sc s)) := by
    have := b9_at j s
    pointwise [b127]
    exact this
  rw [← e]
  exact update1 _ _ _ _ j hj (toInt_trip j hj) i

end

end Cert.RTrip
-- ==== Proof.RLoop.lean ====
/-
  The reference's loop: the state after every trip, and what the reference returns, in plain terms.
-/
module

public import proofs.«01_k».proof.Proof.RTrip
public import proofs.«01_k».proof.Proof.RefRun

@[expose] public section

set_option maxRecDepth 16384
noncomputable section

namespace Cert.RLoop

open Idealize.ShloMosaic Idealize.ShloMosaic.TcCoe Idealize.ShloMosaic.Tactic
open Cert.ReferenceIdeal Cert.ReferenceIdeal.Gen Cert.ReferenceIdeal.Step Cert.Top Cert.Nms Cert.RTrip Cert.RefRun

variable (x0 : (⟨S20000x81, .f32⟩ : BufTy).Contents (Elt Ideal)) (x1 : (⟨S20000x324, .f32⟩ : BufTy).Contents (Elt Ideal))
  (x2 : (⟨S20000x4, .f32⟩ : BufTy).Contents (Elt Ideal))

/-- Coordinate `q` of box `n`, its label and its score, as the loop starts with them. -/
def B (q : Fin 4) (n : Fin 20000) : EReal := bx (init x0 x1 x2) n q
def L (n : Fin 20000) : BitVec 32 := lb (init x0 x1 x2) n
def C (n : Fin 20000) : EReal := sc (init x0 x1 x2) n

/-- The scores before trip `k`. -/
def scs (k : ℕ) : Fin 20000 → EReal := scores (B x0 x1 x2 0) (B x0 x1 x2 1) (B x0 x1 x2 2) (B x0 x1 x2 3) (C x0 x1 x2) k

/-- What the loop has done before trip `k`. -/
structure Upto (k : ℕ) (s : State Ideal) : Prop where
  box : ∀ n q, bx s n q = B x0 x1 x2 q n
  lab : ∀ n, lb s n = L x0 x1 x2 n
  score : sc s = scs x0 x1 x2 k
  rowB : ∀ (i : Fin 100) q, i.val < k → (show FVec Ideal S100x4 .f32 from s.main_v127_4) (ix2 i q) = B x0 x1 x2 q (best (scs x0 x1 x2 i.val))
  rowL : ∀ i : Fin 100, i.val < k → (show IVec S100 32 from s.main_v127_5) (ix1 i) = L x0 x1 x2 (best (scs x0 x1 x2 i.val))
  rowS : ∀ i : Fin 100, i.val < k → (show FVec Ideal S100 .f32 from s.main_v127_6) (ix1 i) = scs x0 x1 x2 i.val (best (scs x0 x1 x2 i.val))

theorem Upto.next {k : ℕ} {s : State Ideal} (hk : k < 100) (h : Upto x0 x1 x2 k s) : Upto x0 x1 x2 (k + 1) (step k s) where
  box := h.box
  lab := h.lab
  score := by
    funext n
    refine (b114_at k s n).trans ?_
    rw [h.score]
    have e : ∀ q, (fun n => bx s n q) = B x0 x1 x2 q := fun q => funext fun n => h.box n q
    rw [e, e, e, e]
    rfl
  rowB := fun i q hi => by
    refine (b124_at k s hk i q).trans ?_
    by_cases e : i.val = k
    · rw [if_pos e, h.box, h.score, e]
    · rw [if_neg e]
      exact h.rowB i q (by omega)
  rowL := fun i hi => by
    refine (b126_at k s hk i).trans ?_
    by_cases e : i.val = k
    · rw [if_pos e, h.lab, h.score, e]
    · rw [if_neg e]
      exact h.rowL i (by omega)
  rowS := fun i hi => by
    refine (b128_at k s hk i).trans ?_
    by_cases e : i.val = k
    · rw [if_pos e, h.score, e]
    · rw [if_neg e]
      exact h.rowS i (by omega)

theorem upto : ∀ k, k ≤ 100 → Upto x0 x1 x2 k (stateAt x0 x1 x2 k)
  | 0, _ => { box := fun _ _ => rfl, lab := fun _ => rfl, score := rfl, rowB := fun _ _ h => absurd h (Nat.not_lt_zero _),
              rowL := fun _ h => absurd h (Nat.not_lt_zero _), rowS := fun _ h => absurd h (Nat.not_lt_zero _) }
  | k + 1, h => (upto k (by omega)).next x0 x1 x2 (by omega)

/-- A condition as a float: one where it holds, zero elsewhere. -/
theorem bit_value (p : Prop) [Decidable p] : FloatOps.uitofp (F := Ideal) FTy.f32 (BitVec.ofBool (decide p)) = if p then 1 else 0 := by
  by_cases h : p
  · simp [h, FloatOps.uitofp]
  · simp [h, FloatOps.uitofp]

theorem boxes_eq (j : Fin 100) (q : Fin 4) :
    (show FVec Ideal S100x4 .f32 from R_main_v134 (stateAt x0 x1 x2 100)) (ix2 j q)
      = gate (scs x0 x1 x2 j.val (best (scs x0 x1 x2 j.val))) (B x0 x1 x2 q (best (scs x0 x1 x2 j.val))) := by
  have h := upto x0 x1 x2 100 le_rfl
  have hb := h.rowB j q j.isLt
  have hs := h.rowS j j.isLt
  pointwise [R_main_v134]
  replace hb : (stateAt x0 x1 x2 100).main_v127_4 (ix2 j q) = _ := hb
  replace hs : (stateAt x0 x1 x2 100).main_v127_6 (ix1 j) = _ := hs
  rw [hb, hs, bit_value]
  unfold gate
  split
  · exact mul_one _
  · exact mul_zero _

theorem scores_eq (j : Fin 100) :
    (show FVec Ideal S100 .f32 from R_main_v130 (stateAt x0 x1 x2 100)) (ix1 j)
      = gate (scs x0 x1 x2 j.val (best (scs x0 x1 x2 j.val))) (scs x0 x1 x2 j.val (best (scs x0 x1 x2 j.val))) := by
  have h := upto x0 x1 x2 100 le_rfl
  have hs := h.rowS j j.isLt
  pointwise [R_main_v130]
  replace hs : (stateAt x0 x1 x2 100).main_v127_6 (ix1 j) = _ := hs
  rw [hs]
  unfold gate
  split
  · rfl
  · exact Ideal.ofBits_zero .f32

theorem labels_eq (j : Fin 100) :
    (show IVec S100 32 from R_main_v135 (stateAt x0 x1 x2 100)) (ix1 j)
      = gateW (scs x0 x1 x2 j.val (best (scs x0 x1 x2 j.val))) (L x0 x1 x2 (best (scs x0 x1 x2 j.val))) := by
  have h := upto x0 x1 x2 100 le_rfl
  have hl := h.rowL j j.isLt
  have hs := h.rowS j j.isLt
  pointwise [R_main_v135]
  replace hl : (stateAt x0 x1 x2 100).main_v127_5 (ix1 j) = _ := hl
  replace hs : (stateAt x0 x1 x2 100).main_v127_6 (ix1 j) = _ := hs
  rw [hl, hs]
  rfl

end Cert.RLoop
-- ==== Proof.RPrep.lean ====
/-
  What the reference's loop starts with, row by row, of the arguments.
-/
module

public import proofs.«01_k».proof.Proof.RLoop
public import proofs.«01_k».proof.Proof.Row
public import proofs.«01_k».proof.Proof.KTrip
public import Idealize.ShloMosaic.Lib.Pointwise

@[expose] public section

set_option maxRecDepth 16384
noncomputable section

namespace Cert.RPrep

open Idealize.ShloMosaic Idealize.ShloMosaic.TcCoe Idealize.ShloMosaic.Tactic
open Cert.ReferenceIdeal Cert.ReferenceIdeal.Gen Cert.ReferenceIdeal.Step Cert.Top Cert.Nms Cert.RTrip Cert.RLoop Cert.Row

variable (x0 : (⟨S20000x81, .f32⟩ : BufTy).Contents (Elt Ideal)) (x1 : (⟨S20000x324, .f32⟩ : BufTy).Contents (Elt Ideal))
  (x2 : (⟨S20000x4, .f32⟩ : BufTy).Contents (Elt Ideal)) (n : Fin 20000)

def lg (k : Fin 81) : EReal := (show FVec Ideal S20000x81 .f32 from x0) (ix2 n k)
def br (k : Fin 324) : EReal := (show FVec Ideal S20000x324 .f32 from x1) (ix2 n k)
def pr (k : Fin 4) : EReal := (show FVec Ideal S20000x4 .f32 from x2) (ix2 n k)

/-! ## The boxes -/

theorem v17_at : A_main_v17 x0 x1 x2 (ix1 n) = size (pr x2 n 0) (pr x2 n 2) := by
  pointwise [A_main_v17, A_main_v15, A_main_v14, A_main_v13, A_main_v12, A_main_v11, K_main_v16, K_main_cst_2]
  rfl

theorem v24_at : A_main_v24 x0 x1 x2 (ix1 n) = size (pr x2 n 1) (pr x2 n 3) := by
  pointwise [A_main_v24, A_main_v22, A_main_v21, A_main_v20, A_main_v19, A_main_v18, K_main_v23, K_main_cst_3]
  rfl

theorem v35_at (k : Fin 81) : A_main_v35 x0 x1 x2 (ix2 n k) = entry (br x1 n) k 0 := by
  pointwise [A_main_v35]
  rfl

theorem v38_at (k : Fin 81) : A_main_v38 x0 x1 x2 (ix2 n k) = entry (br x1 n) k 1 := by
  pointwise [A_main_v38]
  exact congrArg (br x1 n) (Fin.ext (Nat.add_comm _ _))

theorem v41_at (k : Fin 81) : A_main_v41 x0 x1 x2 (ix2 n k) = entry (br x1 n) k 2 := by
  pointwise [A_main_v41]
  exact congrArg (br x1 n) (Fin.ext (Nat.add_comm _ _))

theorem v46_at (k : Fin 81) : A_main_v46 x0 x1 x2 (ix2 n k) = entry (br x1 n) k 3 := by
  pointwise [A_main_v46]
  exact congrArg (br x1 n) (Fin.ext (Nat.add_comm _ _))

theorem v56_at (k : Fin 81) :
    A_main_v56 x0 x1 x2 (ix2 n k) = centre (entry (br x1 n) k 0) (pr x2 n 0) (size (pr x2 n 0) (pr x2 n 2)) := by
  pointwise [A_main_v56, A_main_v53, A_main_v37, A_main_v52, A_main_v51, A_main_v55, A_main_v54, A_main_v29, A_main_v28, A_main_v26,
    A_main_v25, K_main_v36, K_main_cst_6, K_main_v27, K_main_cst_4]
  rw [v17_at, v35_at]
  rfl

theorem v62_at (k : Fin 81) :
    A_main_v62 x0 x1 x2 (ix2 n k) = centre (entry (br x1 n) k 1) (pr x2 n 1) (size (pr x2 n 1) (pr x2 n 3)) := by
  pointwise [A_main_v62, A_main_v59, A_main_v40, A_main_v58, A_main_v57, A_main_v61, A_main_v60, A_main_v34, A_main_v33, A_main_v31,
    A_main_v30, K_main_v39, K_main_cst_7, K_main_v32, K_main_cst_5]
  rw [v24_at, v38_at]
  rfl

theorem v66_at (k : Fin 81) : A_main_v66 x0 x1 x2 (ix2 n k) = span (entry (br x1 n) k 2) (size (pr x2 n 0) (pr x2 n 2)) := by
  pointwise [A_main_v66, A_main_v65, A_main_v64, A_main_v63, A_main_v45, A_main_v43, K_main_v42, K_main_cst_8, K_main_v44, K_main_cst_9]
  rw [v17_at, v41_at]
  rfl

theorem v70_at (k : Fin 81) : A_main_v70 x0 x1 x2 (ix2 n k) = span (entry (br x1 n) k 3) (size (pr x2 n 1) (pr x2 n 3)) := by
  pointwise [A_main_v70, A_main_v69, A_main_v68, A_main_v67, A_main_v50, A_main_v48, K_main_v47, K_main_cst_10, K_main_v49, K_main_cst_11]
  rw [v24_at, v46_at]
  rfl

theorem v94_at (k : Fin 81) : A_main_v94 x0 x1 x2 (ix2 n k) = box (br x1 n) (pr x2 n) k 0 := by
  pointwise [A_main_v94, A_main_call0_v2, K_main_call0_v1, K_main_call0_v0, K_main_call0_v4, K_main_call0_v3, K_main_cst_18, K_main_cst_19,
    A_main_v93, A_main_v92, A_main_v91, A_main_v87, A_main_v73, A_main_v72, K_main_v71, K_main_cst_12, id]
  rw [v56_at, v66_at]
  rfl

theorem v97_at (k : Fin 81) : A_main_v97 x0 x1 x2 (ix2 n k) = box (br x1 n) (pr x2 n) k 1 := by
  pointwise [A_main_v97, A_main_call1_v2, K_main_call1_v1, K_main_call1_v0, K_main_call1_v4, K_main_call1_v3, K_main_cst_20, K_main_cst_21,
    A_main_v96, A_main_v95, A_main_v91, A_main_v88, A_main_v76, A_main_v75, K_main_v74, K_main_cst_13, id]
  rw [v62_at, v70_at]
  rfl

theorem v100_at (k : Fin 81) : A_main_v100 x0 x1 x2 (ix2 n k) = box (br x1 n) (pr x2 n) k 2 := by
  pointwise [A_main_v100, A_main_call2_v2, K_main_call2_v1, K_main_call2_v0, K_main_call2_v4, K_main_call2_v3, K_main_cst_22, K_main_cst_23,
    A_main_v99, A_main_v98, A_main_v91, A_main_v89, A_main_v81, A_main_v79, A_main_v78, K_main_v77, K_main_cst_14, K_main_v80, K_main_cst_15, id]
  rw [v56_at, v66_at]
  rfl

theorem v103_at (k : Fin 81) : A_main_v103 x0 x1 x2 (ix2 n k) = box (br x1 n) (pr x2 n) k 3 := by
  pointwise [A_main_v103, A_main_call3_v2, K_main_call3_v1, K_main_call3_v0, K_main_call3_v4, K_main_call3_v3, K_main_cst_24, K_main_cst_25,
    A_main_v102, A_main_v101, A_main_v91, A_main_v90, A_main_v86, A_main_v84, A_main_v83, K_main_v82, K_main_cst_16, K_main_v85, K_main_cst_17, id]
  rw [v62_at, v70_at]
  rfl

theorem box_at (k : Fin 81) (q : Fin 4) : A_main_v108 x0 x1 x2 (ix3 n k q) = box (br x1 n) (pr x2 n) k q := by
  match q with
  | ⟨0, _⟩ =>
    pointwise [A_main_v108, A_main_v104]
    exact v94_at x0 x1 x2 n k
  | ⟨1, _⟩ =>
    pointwise [A_main_v108, A_main_v105]
    exact v97_at x0 x1 x2 n k
  | ⟨2, _⟩ =>
    pointwise [A_main_v108, A_main_v106]
    exact v100_at x0 x1 x2 n k
  | ⟨3, _⟩ =>
    pointwise [A_main_v108, A_main_v107]
    exact v103_at x0 x1 x2 n k

/-! ## The softmax -/

theorem lift_row (h : S20000x81.Reduces [1] S20000) (k : Fin 81) : h.lift (ix1 n) k = ix2 n k :=
  funext fun a => match a with
    | ⟨0, _⟩ => rfl
    | ⟨1, _⟩ => rfl

theorem lift_one (h : S20000x1x1.Reduces [2] S20000x1) (k : Fin 1) : h.lift (ix2 n (0 : Fin 1)) k = ix3 n (0 : Fin 1) (0 : Fin 1) :=
  funext fun a => match a with
    | ⟨0, _⟩ => rfl
    | ⟨1, _⟩ => rfl
    | ⟨2, _⟩ => Subsingleton.elim (α := Fin 1) _ _

theorem max_at : A_main_v2 x0 x1 x2 (ix1 n) = lg x0 n (top (lg x0 n)) := by
  have h := top_spec (lg x0 n)
  have h0 : A_main_v0 x0 x1 x2 (ix1 n) = lg x0 n (top (lg x0 n)) := by
    unfold A_main_v0
    refine (Host.reduce_eq_fold_single (α := EReal) (s := S20000x81) (t := S20000) (u := S_) (a := 1) max x0 (K_main_cst (F := Ideal)) reducesTo_S20000x81_S20000_d1
      (by decide) h_S_ (ix1 n)).trans ?_
    refine Cert.KTrip.fold_max _ _ _ (le_of_eq_of_le Cert.KTrip.neg_inf bot_le) (fun k => ?_) (top (lg x0 n)) ?_
    · exact (congrArg x0 (lift_row n _ k)).trans_le (h.1 k)
    · exact congrArg x0 (lift_row n _ _)
  unfold A_main_v2
  show max (Ideal.ofBits .f32 0xFF800000#32) (A_main_v0 x0 x1 x2 (ix1 n)) = _
  rw [h0, Cert.KTrip.neg_inf]
  exact bot_sup_eq _

theorem prob_at (k : Fin 81) : A_main_v10 x0 x1 x2 (ix2 n k)
    = Ideal.div (Ideal.exp (lg x0 n k - lg x0 n (top (lg x0 n)))) (total (lg x0 n)) := by
  pointwise [A_main_v10, A_main_v9, A_main_v8, A_main_v7, A_main_v6, A_main_v5, A_main_v4, A_main_v3, K_main_cst_1]
  rw [max_at]
  rfl

/-! ## The entries picked out by the label -/

section Gather

variable (idx : IVec S20000x1x1 32) (t : Fin 81) (h : idx (ix3 n (0 : Fin 1) (0 : Fin 1)) = BitVec.ofNat 32 t.val)
include h

theorem clamp : min (idx (ix3 n (0 : Fin 1) (0 : Fin 1))).toInt.toNat (81 - 1) = t.val := by
  rw [h, Cert.KTrip.toInt_word t.val (by have := t.isLt; omega)]
  have := t.isLt
  omega

theorem pick_score (x : S20000x81.Idx → EReal) :
    Host.gather gather_S20000x81_S20000x1x1_S20000x1_n_1_0_0_1_2_11 x idx (ix2 n (0 : Fin 1)) = x (ix2 n t) := by
  unfold Host.gather
  refine congrArg x (funext fun a => Fin.ext ?_)
  generalize hd : gather_S20000x81_S20000x1x1_S20000x1_n_1_0_0_1_2_11 = d
  have hi : d.siIdx (ix2 n (0 : Fin 1)) ⟨0, by subst hd; decide⟩ = ix3 n (0 : Fin 1) (0 : Fin 1) := by
    subst hd
    funext b
    match b with
    | ⟨0, _⟩ => rfl
    | ⟨1, _⟩ => rfl
    | ⟨2, _⟩ => rfl
  match a with
  | ⟨0, _⟩ =>
    show d.start (ix2 n (0 : Fin 1)) idx 0 + d.batchCoord (ix2 n (0 : Fin 1)) 0 + d.offCoord (ix2 n (0 : Fin 1)) 0 = n.val
    have e1 : d.start (ix2 n (0 : Fin 1)) idx 0 = 0 := by subst hd; exact dif_neg (by decide)
    have e2 : d.batchCoord (ix2 n (0 : Fin 1)) 0 = n.val := by subst hd; exact (dif_pos (by decide)).trans rfl
    have e3 : d.offCoord (ix2 n (0 : Fin 1)) 0 = 0 := by subst hd; exact dif_neg (by decide)
    omega
  | ⟨1, _⟩ =>
    show d.start (ix2 n (0 : Fin 1)) idx 1 + d.batchCoord (ix2 n (0 : Fin 1)) 1 + d.offCoord (ix2 n (0 : Fin 1)) 1 = t.val
    have e1 : d.start (ix2 n (0 : Fin 1)) idx 1 = min (idx (d.siIdx (ix2 n (0 : Fin 1)) ⟨0, by subst hd; decide⟩)).toInt.toNat (81 - 1) := by
      subst hd; exact dif_pos (by decide)
    have e2 : d.batchCoord (ix2 n (0 : Fin 1)) 1 = 0 := by subst hd; exact dif_neg (by decide)
    have e3 : d.offCoord (ix2 n (0 : Fin 1)) 1 = 0 := by subst hd; exact dif_neg (by decide)
    rw [hi, clamp n idx t h] at e1
    omega

theorem pick_box (x : S20000x81x4.Idx → EReal) (q : Fin 4) :
    Host.gather gather_S20000x81x4_S20000x1x1_S20000x1x4_2_1_0_0_1_2_114 x idx (ix3 n (0 : Fin 1) q) = x (ix3 n t q) := by
  unfold Host.gather
  refine congrArg x (funext fun a => Fin.ext ?_)
  generalize hd : gather_S20000x81x4_S20000x1x1_S20000x1x4_2_1_0_0_1_2_114 = d
  have hi : d.siIdx (ix3 n (0 : Fin 1) q) ⟨0, by subst hd; decide⟩ = ix3 n (0 : Fin 1) (0 : Fin 1) := by
    subst hd
    funext b
    match b with
    | ⟨0, _⟩ => rfl
    | ⟨1, _⟩ => rfl
    | ⟨2, _⟩ => rfl
  match a with
  | ⟨0, _⟩ =>
    show d.start (ix3 n (0 : Fin 1) q) idx 0 + d.batchCoord (ix3 n (0 : Fin 1) q) 0 + d.offCoord (ix3 n (0 : Fin 1) q) 0 = n.val
    have e1 : d.start (ix3 n (0 : Fin 1) q) idx 0 = 0 := by subst hd; exact dif_neg (by decide)
    have e2 : d.batchCoord (ix3 n (0 : Fin 1) q) 0 = n.val := by subst hd; exact (dif_pos (by decide)).trans rfl
    have e3 : d.offCoord (ix3 n (0 : Fin 1) q) 0 = 0 := by subst hd; exact dif_neg (by decide)
    omega
  | ⟨1, _⟩ =>
    show d.start (ix3 n (0 : Fin 1) q) idx 1 + d.batchCoord (ix3 n (0 : Fin 1) q) 1 + d.offCoord (ix3 n (0 : Fin 1) q) 1 = t.val
    have e1 : d.start (ix3 n (0 : Fin 1) q) idx 1 = min (idx (d.siIdx (ix3 n (0 : Fin 1) q) ⟨0, by subst hd; decide⟩)).toInt.toNat (81 - 1) := by
      subst hd; exact dif_pos (by decide)
    have e2 : d.batchCoord (ix3 n (0 : Fin 1) q) 1 = 0 := by subst hd; exact dif_neg (by decide)
    have e3 : d.offCoord (ix3 n (0 : Fin 1) q) 1 = 0 := by subst hd; exact dif_neg (by decide)
    rw [hi, clamp n idx t h] at e1
    omega
  | ⟨2, _⟩ =>
    show d.start (ix3 n (0 : Fin 1) q) idx 2 + d.batchCoord (ix3 n (0 : Fin 1) q) 2 + d.offCoord (ix3 n (0 : Fin 1) q) 2 = q.val
    have e1 : d.start (ix3 n (0 : Fin 1) q) idx 2 = 0 := by subst hd; exact dif_neg (by decide)
    have e2 : d.batchCoord (ix3 n (0 : Fin 1) q) 2 = 0 := by subst hd; exact dif_neg (by decide)
    have e3 : d.offCoord (ix3 n (0 : Fin 1) q) 2 = q.val := by subst hd; exact (dif_pos (by decide)).trans rfl
    omega

end Gather

/-- A conjunction over an axis of one entry. -/
theorem all_one (x : S20000x1x1.Idx → BitVec 1) (c : S_.Idx → BitVec 1) (hc : c ix0 = 1#1) (hx : x (ix3 n (0 : Fin 1) (0 : Fin 1)) = 1#1) :
    Host.reduce IntOp.andi x c reducesTo_S20000x1x1_S20000x1_d2 h_S_ (ix2 n (0 : Fin 1)) = 1#1 := by
  refine (Host.reduce_eq_fold_single (s := S20000x1x1) (t := S20000x1) (u := S_) (a := 2) IntOp.andi x c reducesTo_S20000x1x1_S20000x1_d2
      (by decide) h_S_ (ix2 n (0 : Fin 1))).trans ?_
  have hx' : (x ∘ (show S20000x1x1.Reduces [2] S20000x1 by decide).lift (ix2 n (0 : Fin 1))) = fun _ : Fin 1 => 1#1 :=
    funext fun k => (congrArg x (lift_one n _ k)).trans hx
  rw [hx']
  show Finset.fold IntOp.andi (c (Shape.Idx.first h_S_)) (fun _ : Fin 1 => 1#1) Finset.univ = 1#1
  rw [show Shape.Idx.first h_S_ = ix0 from funext fun a => a.elim0, hc]
  rfl

end Cert.RPrep
-- ==== Proof.RScore.lean ====
/-
  What the reference's loop starts with, row by row, of the arguments: the label, the score and the box.
-/
module

public import proofs.«01_k».proof.Proof.RPrep
public import proofs.«01_k».proof.Proof.KRow

@[expose] public section

set_option maxRecDepth 16384
noncomputable section

namespace Cert.RScore

open Idealize.ShloMosaic Idealize.ShloMosaic.TcCoe Idealize.ShloMosaic.Tactic
open Cert.ReferenceIdeal Cert.ReferenceIdeal.Gen Cert.ReferenceIdeal.Step Cert.Top Cert.Nms Cert.RTrip Cert.RLoop Cert.Row Cert.RPrep

/-! ## Probabilities and logits have the same greatest class -/

section Softmax

theorem coe_total (f : Fin 81 → ℝ) : ((∑ k, f k : ℝ) : EReal) = ∑ k, (f k : EReal) :=
  map_sum (⟨⟨Real.toEReal, EReal.coe_zero⟩, EReal.coe_add⟩ : ℝ →+ EReal) f Finset.univ

variable (v : Fin 81 → EReal) (hv : ∀ k, v k < ⊤)
include hv

/-- Where the greatest logit is a real number the shifted exponentials are real, in the order of the logits, the greatest of them one. -/
theorem shifted (hb : v (top v) ≠ ⊥) : ∃ f : Fin 81 → ℝ, (∀ k, Ideal.exp (v k - v (top v)) = (f k : EReal)) ∧ (∀ k, 0 ≤ f k)
    ∧ f (top v) = 1 ∧ ∀ i j, v i < v j → f i < f j := by
  obtain ⟨r, hr⟩ : ∃ r : ℝ, v (top v) = (r : EReal) := ⟨_, (EReal.coe_toReal (hv _).ne hb).symm⟩
  refine ⟨fun k => if v k = ⊥ then 0 else Real.exp ((v k).toReal - r), fun k => ?_, fun k => ?_, ?_, fun i j hij => ?_⟩
  · rw [hr]
    show _ = ((if v k = ⊥ then 0 else Real.exp ((v k).toReal - r) : ℝ) : EReal)
    by_cases hk : v k = ⊥
    · rw [if_pos hk, hk, EReal.bot_sub]
      rfl
    · rw [if_neg hk]
      conv_lhs => rw [← EReal.coe_toReal (hv k).ne hk, ← EReal.coe_sub]
      rfl
  · show 0 ≤ (if v k = ⊥ then 0 else Real.exp ((v k).toReal - r))
    split
    · exact le_rfl
    · exact (Real.exp_pos _).le
  · show (if v (top v) = ⊥ then 0 else Real.exp ((v (top v)).toReal - r)) = 1
    rw [if_neg hb, hr, EReal.toReal_coe, sub_self, Real.exp_zero]
  · show (if v i = ⊥ then 0 else Real.exp ((v i).toReal - r)) < (if v j = ⊥ then 0 else Real.exp ((v j).toReal - r))
    have hj : v j ≠ ⊥ := ((bot_le).trans_lt hij).ne'
    rw [if_neg hj]
    split
    · exact Real.exp_pos _
    · rename_i hi
      rw [← EReal.coe_toReal (hv i).ne hi, ← EReal.coe_toReal (hv j).ne hj, EReal.coe_lt_coe_iff] at hij
      exact Real.exp_lt_exp.mpr (by linarith)

theorem prob_top : IsTop (fun k => Ideal.div (Ideal.exp (v k - v (top v))) (total v)) (top v) := by
  have ht := top_spec v
  by_cases hb : v (top v) = ⊥
  · have hall : ∀ k, v k = v (top v) := fun k => by rw [hb]; exact le_bot_iff.mp (hb ▸ ht.1 k)
    have h0 : ∀ k, ¬ k < top v := fun k hk => absurd (ht.2 k hk) (by rw [hall k]; exact lt_irrefl _)
    exact ⟨fun k => (congrArg (fun z => Ideal.div (Ideal.exp (z - v (top v))) (total v)) (hall k)).le, fun k hk => absurd hk (h0 k)⟩
  · obtain ⟨f, hf, hpos, hone, hlt⟩ := shifted v hv hb
    have hT : total v = ((∑ k, f k : ℝ) : EReal) := by
      unfold total
      rw [coe_total]
      exact Finset.sum_congr rfl fun k _ => hf k
    have hS : 0 < ∑ k, f k := Finset.sum_pos' (fun k _ => hpos k) ⟨top v, Finset.mem_univ _, by rw [hone]; exact one_pos⟩
    have e : (fun k => Ideal.div (Ideal.exp (v k - v (top v))) (total v)) = fun k => ((f k * (1 / ∑ k, f k) : ℝ) : EReal) := by
      funext k
      rw [hf, hT, Ideal.div_coe hS.ne', EReal.coe_mul]
    have hc : 0 < 1 / ∑ k, f k := one_div_pos.mpr hS
    rw [e]
    have hlt' : ∀ i j, v i < v j → f i * (1 / ∑ k, f k) < f j * (1 / ∑ k, f k) := fun i j h => mul_lt_mul_of_pos_right (hlt i j h) hc
    refine ⟨fun k => ?_, fun k hk => EReal.coe_lt_coe_iff.mpr (hlt' _ _ (ht.2 k hk))⟩
    rcases (ht.1 k).lt_or_eq with h | h
    · exact (EReal.coe_lt_coe_iff.mpr (hlt' _ _ h)).le
    · have e1 := hf k
      rw [h] at e1
      have e2 : f k = f (top v) := EReal.coe_injective (e1.symm.trans (hf (top v)))
      exact (congrArg (fun z : ℝ => ((z * (1 / ∑ k, f k) : ℝ) : EReal)) e2).le

/-- The probability of the greatest class. -/
theorem prob_at_top (hb : v (top v) ≠ ⊥) : Ideal.div (Ideal.exp (v (top v) - v (top v))) (total v) = Ideal.div 1 (total v) := by
  obtain ⟨f, hf, -, hone, -⟩ := shifted v hv hb
  rw [hf, hone]
  rfl

omit hv in
theorem top_zero (hb : v (top v) = ⊥) : (top v).val = 0 := by
  have ht := top_spec v
  by_contra h
  have := ht.2 ⟨0, by decide⟩ (by show 0 < (top v).val; omega)
  rw [hb] at this
  exact absurd this not_lt_bot

end Softmax

variable (x0 : (⟨S20000x81, .f32⟩ : BufTy).Contents (Elt Ideal)) (x1 : (⟨S20000x324, .f32⟩ : BufTy).Contents (Elt Ideal))
  (x2 : (⟨S20000x4, .f32⟩ : BufTy).Contents (Elt Ideal)) (n : Fin 20000) (hv : ∀ k, lg x0 n k < ⊤)
include hv

theorem index_at : A_main_indices x0 x1 x2 (ix2 n (0 : Fin 1)) = BitVec.ofNat 32 (top (lg x0 n)).val := by
  unfold A_main_indices
  refine topK_top (s := S20000x81) (t := S20000x1) 1 (by decide) (A_main_v10 x0 x1 x2) _ (ix2 n (0 : Fin 1)) (ix2 n (0 : Fin 81)) ?_ _ rfl ?_
  · intro a
    match a with
    | ⟨0, _⟩ => rfl
    | ⟨1, _⟩ => rfl
  · have h := prob_top _ hv
    rw [show (fun k => Ideal.div (Ideal.exp (lg x0 n k - lg x0 n (top (lg x0 n)))) (total (lg x0 n)))
      = fun k : Fin 81 => A_main_v10 x0 x1 x2 (ix2 n k) from funext fun k => (prob_at x0 x1 x2 n k).symm] at h
    refine Eq.mp (congrArg (fun v : Fin 81 → EReal => IsTop v (top (lg x0 n))) (funext fun k => congrArg (A_main_v10 x0 x1 x2) ?_)) h
    funext a
    match a with
    | ⟨0, _⟩ => exact (Function.update_of_ne (show (0 : Fin 2) ≠ 1 by decide) _ _).symm
    | ⟨1, _⟩ => exact (Function.update_self _ _ _).symm

theorem label_at : A_main_v109 x0 x1 x2 (ix1 n) = BitVec.ofNat 32 (top (lg x0 n)).val := by
  have h := index_at x0 x1 x2 n hv
  pointwise [A_main_v109]
  exact h

omit hv in
theorem small_slt (t : Fin 81) : IntOp.cmpi .slt (BitVec.ofNat 32 t.val) 0#32 = 0#1 := by
  revert t; decide

omit hv in
theorem small_sge (t : Fin 81) : IntOp.cmpi .sge (BitVec.ofNat 32 t.val) 0#32 = 1#1 := by
  revert t; decide

omit hv in
theorem small_sle (t : Fin 81) : IntOp.cmpi .sle (BitVec.ofNat 32 t.val) 80#32 = 1#1 := by
  revert t; decide

theorem word4_at : A_main_call4_v5 x0 x1 x2 (ix3 n (0 : Fin 1) (0 : Fin 1)) = BitVec.ofNat 32 (top (lg x0 n)).val := by
  have h := label_at x0 x1 x2 n hv
  have hs := small_slt (top (lg x0 n))
  pointwise [A_main_call4_v5, A_main_call4_v4, A_main_call4_v1, A_main_call4_v3, A_main_v110, K_main_call4_v0, K_main_call4_c, K_main_call4_v2, K_main_call4_c_0]
  rw [h, hs]
  rfl

theorem word5_at : A_main_call5_v4 x0 x1 x2 (ix3 n (0 : Fin 1) (0 : Fin 1)) = BitVec.ofNat 32 (top (lg x0 n)).val := by
  have h := label_at x0 x1 x2 n hv
  have hs := small_slt (top (lg x0 n))
  pointwise [A_main_call5_v4, A_main_call5_v1, A_main_call5_v3, A_main_v115, A_main_v114, A_main_v113, K_main_call5_v0, K_main_call5_c, K_main_call5_v2, K_main_call5_c_0]
  rw [h, hs]
  rfl

theorem mask4_at : A_main_call4_v12 x0 x1 x2 (ix2 n (0 : Fin 1)) = 1#1 := by
  refine all_one n _ _ rfl ?_
  have h := word4_at x0 x1 x2 n hv
  pointwise [A_main_call4_v11, A_main_call4_v7, A_main_call4_v10, K_main_call4_v6, K_main_call4_c_2, K_main_call4_v9, K_main_call4_v8, K_main_call4_c_1]
  rw [h, small_sge, small_sle]
  rfl

theorem mask5_at : A_main_call5_v11 x0 x1 x2 (ix2 n (0 : Fin 1)) = 1#1 := by
  refine all_one n _ _ rfl ?_
  have h := word5_at x0 x1 x2 n hv
  pointwise [A_main_call5_v10, A_main_call5_v6, A_main_call5_v9, K_main_call5_v5, K_main_call5_c_2, K_main_call5_v8, K_main_call5_v7, K_main_call5_c_1]
  rw [h, small_sge, small_sle]
  rfl

theorem prob_picked : A_main_v112 x0 x1 x2 (ix1 n)
    = Ideal.div (Ideal.exp (lg x0 n (top (lg x0 n)) - lg x0 n (top (lg x0 n)))) (total (lg x0 n)) := by
  have hm := mask4_at x0 x1 x2 n hv
  have hg : A_main_call4_v13 x0 x1 x2 (ix2 n (0 : Fin 1)) = A_main_v10 x0 x1 x2 (ix2 n (top (lg x0 n))) :=
    pick_score n _ _ (word4_at x0 x1 x2 n hv) _
  pointwise [A_main_v112, A_main_v111]
  rw [hm, hg, prob_at]
  rfl

theorem box_picked (q : Fin 4) : A_main_v117 x0 x1 x2 (ix2 n q) = box (br x1 n) (pr x2 n) (top (lg x0 n)) q := by
  have hm := mask5_at x0 x1 x2 n hv
  have hg : A_main_call5_v12 x0 x1 x2 (ix3 n (0 : Fin 1) q) = A_main_v108 x0 x1 x2 (ix3 n (top (lg x0 n)) q) :=
    pick_box n _ _ (word5_at x0 x1 x2 n hv) _ q
  pointwise [A_main_v117, A_main_v116, A_main_call5_v13]
  rw [hm, hg, box_at]
  rfl

theorem score_picked : A_main_v123 x0 x1 x2 (ix1 n) = score (lg x0 n) := by
  have hp := prob_picked x0 x1 x2 n hv
  have hl := label_at x0 x1 x2 n hv
  pointwise [A_main_v123, A_main_v122, A_main_v121, A_main_v119, K_main_v118, K_main_c, K_main_v120, K_main_cst_26, K_main_call6_v1, K_main_call6_v0, K_main_cst_27, id]
  rw [hl, hp, Cert.KRow.at_least_one, Cert.KRow.select_and]
  unfold score
  by_cases hb : lg x0 n (top (lg x0 n)) = ⊥
  · have h0 := top_zero (lg x0 n) hb
    rw [if_neg (by omega), if_neg (by omega)]
    rfl
  · rw [prob_at_top _ hv hb]
    rfl

end Cert.RScore
-- ==== Proof.Meet.lean ====
/-
  The kernel's results are the reference's.
-/
module

public import proofs.«01_k».proof.Proof.KPrep
public import proofs.«01_k».proof.Proof.KOut
public import proofs.«01_k».proof.Proof.RScore

@[expose] public section

set_option maxRecDepth 16384
noncomputable section

namespace Cert.Meet

open Idealize.ShloMosaic Idealize.ShloMosaic.TcCoe
open Cert.Nms Cert.Row

section Start

variable (y0 : (⟨Cert.ReferenceIdeal.S20000x81, .f32⟩ : BufTy).Contents (Elt Ideal))
  (y1 : (⟨Cert.ReferenceIdeal.S20000x324, .f32⟩ : BufTy).Contents (Elt Ideal))
  (y2 : (⟨Cert.ReferenceIdeal.S20000x4, .f32⟩ : BufTy).Contents (Elt Ideal)) (n : Fin 20000)

theorem B_at (q : Fin 4) : Cert.RLoop.B y0 y1 y2 q n = Cert.ReferenceIdeal.Step.A_main_v117 y0 y1 y2 (ix2 n q) := by
  unfold Cert.RLoop.B Cert.RTrip.bx Cert.ReferenceIdeal.Step.init
  generalize Cert.ReferenceIdeal.Step.A_main_v117 y0 y1 y2 = z
  rfl
theorem C_at : Cert.RLoop.C y0 y1 y2 n = Cert.ReferenceIdeal.Step.A_main_v123 y0 y1 y2 (ix1 n) := by
  unfold Cert.RLoop.C Cert.RTrip.sc Cert.ReferenceIdeal.Step.init
  rfl
theorem L_at : Cert.RLoop.L y0 y1 y2 n = Cert.ReferenceIdeal.Step.A_main_v109 y0 y1 y2 (ix1 n) := by
  unfold Cert.RLoop.L Cert.RTrip.lb Cert.ReferenceIdeal.Step.init
  rfl

end Start

variable (m : (ℓ : Loc Cert.KernelIdeal.nD Cert.KernelIdeal.τ Cert.KernelIdeal.sig) → Buf (Elt Ideal) ℓ)
  (ρ : Dev Cert.KernelIdeal.nD → PrngReg) (c : Dev Cert.KernelIdeal.nD)

/-- The three arguments, as the reference takes them. -/
def x0 : (⟨Cert.ReferenceIdeal.S20000x81, .f32⟩ : BufTy).Contents (Elt Ideal) :=
  m ((c.tc : Thread Cert.KernelIdeal.nD Cert.KernelIdeal.τ).loc Cert.KernelIdeal.main_arg0)
def x1 : (⟨Cert.ReferenceIdeal.S20000x324, .f32⟩ : BufTy).Contents (Elt Ideal) :=
  m ((c.tc : Thread Cert.KernelIdeal.nD Cert.KernelIdeal.τ).loc Cert.KernelIdeal.main_arg1)
def x2 : (⟨Cert.ReferenceIdeal.S20000x4, .f32⟩ : BufTy).Contents (Elt Ideal) :=
  m ((c.tc : Thread Cert.KernelIdeal.nD Cert.KernelIdeal.τ).loc Cert.KernelIdeal.main_arg2)

theorem lg_eq (n : Fin 20000) : Cert.RPrep.lg (x0 m c) n = Cert.KPrep.lg m c n := rfl
theorem br_eq (n : Fin 20000) : Cert.RPrep.br (x1 m c) n = Cert.KPrep.br m c n := rfl
theorem pr_eq (n : Fin 20000) : Cert.RPrep.pr (x2 m c) n = Cert.KPrep.pr m c n := rfl

variable (hv : ∀ n k, Cert.RPrep.lg (x0 m c) n k < ⊤)
include hv

theorem B_eq (q : Fin 4) : Cert.RLoop.B (x0 m c) (x1 m c) (x2 m c) q
    = fun n => box (Cert.KPrep.br m c n) (Cert.KPrep.pr m c n) (top (Cert.KPrep.lg m c n)) q :=
  funext fun n => (B_at (x0 m c) (x1 m c) (x2 m c) n q).trans ((Cert.RScore.box_picked (x0 m c) (x1 m c) (x2 m c) n (hv n) q).trans
    (by rw [br_eq, pr_eq, lg_eq]))

theorem C_eq : Cert.RLoop.C (x0 m c) (x1 m c) (x2 m c) = fun n => score (Cert.KPrep.lg m c n) :=
  funext fun n => (C_at (x0 m c) (x1 m c) (x2 m c) n).trans ((Cert.RScore.score_picked (x0 m c) (x1 m c) (x2 m c) n (hv n)).trans
    (by rw [lg_eq]))

theorem L_eq : Cert.RLoop.L (x0 m c) (x1 m c) (x2 m c) = fun n => BitVec.ofNat 32 (top (Cert.KPrep.lg m c n)).val :=
  funext fun n => (L_at (x0 m c) (x1 m c) (x2 m c) n).trans ((Cert.RScore.label_at (x0 m c) (x1 m c) (x2 m c) n (hv n)).trans
    (by rw [lg_eq]))

theorem scs_eq : Cert.KOut.scs m ρ c = Cert.RLoop.scs (x0 m c) (x1 m c) (x2 m c) := by
  funext k
  unfold Cert.KOut.scs Cert.RLoop.scs
  rw [B_eq m c hv, B_eq m c hv, B_eq m c hv, B_eq m c hv, C_eq m c hv, Cert.KPrep.X1_eq, Cert.KPrep.Y1_eq, Cert.KPrep.X2_eq,
    Cert.KPrep.Y2_eq, Cert.KPrep.SC_eq]

theorem coord_eq (q : Fin 4) (n : Fin 20000) :
    coord (Cert.KOut.X1 m ρ c) (Cert.KOut.Y1 m ρ c) (Cert.KOut.X2 m ρ c) (Cert.KOut.Y2 m ρ c) q n
      = Cert.RLoop.B (x0 m c) (x1 m c) (x2 m c) q n := by
  rw [B_eq m c hv, Cert.KPrep.X1_eq, Cert.KPrep.Y1_eq, Cert.KPrep.X2_eq, Cert.KPrep.Y2_eq]
  match q with
  | ⟨0, _⟩ => rfl
  | ⟨1, _⟩ => rfl
  | ⟨2, _⟩ => rfl
  | ⟨3, _⟩ => rfl

theorem boxes : Cert.ReferenceIdeal.Step.R_main_v134 (Cert.RefRun.stateAt (x0 m c) (x1 m c) (x2 m c) 100)
    = Cert.KernelIdeal.Gen.W16 m ρ c (Proc.devRef .tc Cert.KernelIdeal.main_v20) := by
  funext i
  obtain ⟨j, q, rfl⟩ : ∃ (j : Fin 100) (q : Fin 4), i = ix2 j q := ⟨i 0, i 1, funext fun a => match a with | ⟨0, _⟩ => rfl | ⟨1, _⟩ => rfl⟩
  refine (Cert.RLoop.boxes_eq _ _ _ j q).trans (Eq.symm ((Cert.KOut.boxes_eq m ρ c (Cert.KPrep.hS m ρ c) (Cert.KPrep.h1 m ρ c)
    (Cert.KPrep.h2 m ρ c) (Cert.KPrep.h3 m ρ c) (Cert.KPrep.h4 m ρ c) j q).trans ?_))
  rw [coord_eq m ρ c hv, scs_eq m ρ c hv]

theorem scores : Cert.ReferenceIdeal.Step.R_main_v130 (Cert.RefRun.stateAt (x0 m c) (x1 m c) (x2 m c) 100)
    = Cert.KernelIdeal.Gen.W16 m ρ c (Proc.devRef .tc Cert.KernelIdeal.main_v21) := by
  funext i
  obtain ⟨j, rfl⟩ : ∃ j : Fin 100, i = ix1 j := ⟨i 0, funext fun a => match a with | ⟨0, _⟩ => rfl⟩
  refine (Cert.RLoop.scores_eq _ _ _ j).trans (Eq.symm ((Cert.KOut.scores_eq m ρ c (Cert.KPrep.hS m ρ c) (Cert.KPrep.h1 m ρ c)
    (Cert.KPrep.h2 m ρ c) (Cert.KPrep.h3 m ρ c) (Cert.KPrep.h4 m ρ c) j).trans ?_))
  rw [scs_eq m ρ c hv]

theorem labels : Cert.ReferenceIdeal.Step.R_main_v135 (Cert.RefRun.stateAt (x0 m c) (x1 m c) (x2 m c) 100)
    = Cert.KernelIdeal.Gen.W16 m ρ c (Proc.devRef .tc Cert.KernelIdeal.main_v22) := by
  funext i
  obtain ⟨j, rfl⟩ : ∃ j : Fin 100, i = ix1 j := ⟨i 0, funext fun a => match a with | ⟨0, _⟩ => rfl⟩
  refine (Cert.RLoop.labels_eq _ _ _ j).trans (Eq.symm ((Cert.KOut.labels_eq m ρ c (Cert.KPrep.hS m ρ c) (Cert.KPrep.h1 m ρ c)
    (Cert.KPrep.h2 m ρ c) (Cert.KPrep.h3 m ρ c) (Cert.KPrep.h4 m ρ c) (Cert.KPrep.hL m ρ c) j).trans ?_))
  rw [scs_eq m ρ c hv, Cert.KPrep.LB_eq, L_eq m c hv]

end Cert.Meet

end
-- ==== Proof.lean ====
/-
  The proof of the claim: the frames from the generated runs, the equality of the results from the two runs and from
  `Cert.Meet`, which reads both programs' results as the same function of the arguments.
-/
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.ReferenceIdeal.Step
public import proofs.«01_k».proof.Proof.KRun
public import proofs.«01_k».proof.Proof.RefRun
public import proofs.«01_k».proof.Proof.Meet
public import Idealize.ShloMosaic.Adequacy
public import Idealize.ShloMosaic.Init
public import Idealize.ShloMosaic.Lib.Quiescent

@[expose] public section

noncomputable section

namespace Cert.Proof

open Idealize.ShloMosaic Idealize.SL.Sem Cert.Kernel

/-- The reference's run leaves its arguments as they were; it declares no semaphore. -/
theorem frame_reference (m ρ) : θ_run (Cert.ReferenceIdeal.defs (F := Ideal))
    (onTc (τ := Cert.ReferenceIdeal.τ) (Cert.ReferenceIdeal.main (F := Ideal))) ⟨m, fun _ => 0, ρ⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0) :=
  (θ_run Cert.ReferenceIdeal.defs _ _).mono (fun r h => ⟨fun c => (h c).2.2.2,
      Idealize.ShloMosaic.sem_eq_zero_of_no_sems (by decide) r.2⟩)
    (Cert.ReferenceIdeal.Value.run (F := Ideal) m ρ)

theorem facts_pre : Cert.Pre_logits_below_inf.Facts := ⟨by decide⟩

/-- What the precondition says: no logit is plus infinity. -/
theorem logits_lt (m : (ℓ : Loc Cert.KernelIdeal.nD Cert.KernelIdeal.τ Cert.KernelIdeal.sig) → Buf (Elt Ideal) ℓ)
    (h : Cert.Pre_KernelIdeal_logits_below_inf (hPre_logits_below_inf := facts_pre) m) (c : Dev Cert.KernelIdeal.nD) (n : Fin 20000) (k : Fin 81) :
    Cert.RPrep.lg (Cert.Meet.x0 m c) n k < ⊤ := by
  have e : BitVec.ofBool (decide (Cert.RPrep.lg (Cert.Meet.x0 m c) n k < Ideal.ofBits .f32 0x7F800000#32)) = 1#1 := congrFun (h c) (ix2 n k)
  have ht : Ideal.ofBits .f32 0x7F800000#32 = ⊤ := by simp [Ideal.ofBits, Ideal.ieee]
  rw [ht] at e
  by_contra hc
  rw [decide_eq_false hc] at e
  exact absurd e (by decide)

theorem same_results : Cert.algebraic_KernelIdeal_ReferenceIdeal_pre_logits_below_inf (hKernelIdeal := Cert.KernelIdeal.Gen.facts)
    (hReferenceIdeal := Cert.ReferenceIdeal.Gen.facts) (hPre_logits_below_inf := facts_pre) := by
  intro m g m' g' hpre hargs
  refine ⟨_, _, _, Cert.KRun.run (F := Ideal) m g, (θ_run Cert.ReferenceIdeal.defs _ _).mono (fun r h c => ?_) (Cert.RefRun.run m' g')⟩
  obtain ⟨h1, h2, h3, h4⟩ := h c
  have e0 : Cert.RefRun.a0 m' c = Cert.Meet.x0 m c := (hargs c).1
  have e1 : Cert.RefRun.a1 m' c = Cert.Meet.x1 m c := (hargs c).2.1
  have e2 : Cert.RefRun.a2 m' c = Cert.Meet.x2 m c := (hargs c).2.2
  rw [e0, e1, e2] at h1 h2 h3
  have hv := logits_lt m hpre c
  exact ⟨h1.trans (Cert.Meet.boxes m g c hv), h2.trans (Cert.Meet.scores m g c hv), h3.trans (Cert.Meet.labels m g c hv), h4⟩

theorem claim : Cert.Claim := ⟨Cert.Kernel.Gen.facts, Cert.KernelIdeal.Gen.facts, Cert.ReferenceIdeal.Gen.facts, facts_pre,
  fun m ρ _ => Cert.Kernel.Gen.frame m ρ, fun m ρ _ => Cert.KernelIdeal.Gen.frame m ρ, fun m ρ _ => Cert.KernelIdeal.Gen.frame m ρ,
  fun m ρ _ => frame_reference m ρ, fun m ρ _ => frame_reference m ρ, trivial, same_results⟩

end Cert.Proof

end
